-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_ranked [hPre_ranked : Cert.Pre_ranked.Facts] (m : (ℓ : Loc Cert.KernelIdeal.nD Cert.KernelIdeal.τ Cert.KernelIdeal.sig) → Buf (Elt Ideal) ℓ) : Prop :=
  ∀ c : Dev Cert.KernelIdeal.nD,
    (Cert.Pre_ranked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranked [hPre_ranked : Cert.Pre_ranked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ranked [hKernelIdeal : Cert.KernelIdeal.Facts] [hPre_ranked : Cert.Pre_ranked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ranked [hReferenceIdeal : Cert.ReferenceIdeal.Facts] [hPre_ranked : Cert.Pre_ranked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_ranked [hKernelIdeal : Cert.KernelIdeal.Facts] [hReferenceIdeal : Cert.ReferenceIdeal.Facts] [hPre_ranked : Cert.Pre_ranked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_ranked : Cert.Pre_ranked.Facts),
    quiescent_Kernel (hKernel := hKernel) (hPre_in_range := hPre_in_range)
    ∧ quiescent_KernelIdeal (hKernelIdeal := hKernelIdeal) (hPre_in_range := hPre_in_range)
    ∧ quiescent_KernelIdeal_pre_ranked (hKernelIdeal := hKernelIdeal) (hPre_ranked := hPre_ranked)
    ∧ quiescent_ReferenceIdeal (hReferenceIdeal := hReferenceIdeal)
    ∧ quiescent_ReferenceIdeal_pre_ranked (hReferenceIdeal := hReferenceIdeal) (hPre_ranked := hPre_ranked)
    ∧ preserves_Kernel_KernelIdeal
    ∧ algebraic_KernelIdeal_ReferenceIdeal_pre_ranked (hKernelIdeal := hKernelIdeal) (hReferenceIdeal := hReferenceIdeal) (hPre_ranked := hPre_ranked)
-- ==== Pre_in_range.lean ====
abbrev S10000x64x128 : Shape := ⟨3, ![10000, 64, 128]⟩
abbrev S10000x64 : Shape := ⟨2, ![10000, 64]⟩
abbrev S1024x128 : Shape := ⟨2, ![1024, 128]⟩
abbrev S1024x10000 : Shape := ⟨2, ![1024, 10000]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S10000x64x128 .f32) (main_arg1 : FVec F S10000x64 .f32) (main_arg2 : FVec F S1024x128 .f32) (main_arg3 : FVec F S1024x10000 .f32) (main_arg4 : IVec S256 32) (main_arg5 : FVec F S_ .f32) : IVec S256 1 :=
  let main_c : IVec S_ 32 := constantI S_ 32 0#32
  let main_v0 : IVec S256 32 := broadcastInDim S256 ![] bcast_S_S256 main_c
  let main_v1 : IVec S256 1 := cmpi .sge main_arg4 main_v0
  let main_c_0 : IVec S_ 32 := constantI S_ 32 10000#32
  let main_v2 : IVec S256 32 := broadcastInDim S256 ![] bcast_S_S256 main_c_0
  let main_v3 : IVec S256 1 := cmpi .slt main_arg4 main_v2
  let main_v4 : IVec S256 1 := andi main_v1 main_v3
  main_v4
-- ==== Pre_ranked.lean ====
abbrev S10000x64x128 : Shape := ⟨3, ![10000, 64, 128]⟩
abbrev S10000x64 : Shape := ⟨2, ![10000, 64]⟩
abbrev S1024x128 : Shape := ⟨2, ![1024, 128]⟩
abbrev S1024x10000 : Shape := ⟨2, ![1024, 10000]⟩
abbrev S256 : Shape := ⟨1, ![256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S10000x64 : S_.BroadcastsInDim S10000x64 (![] : Fin 0 → Fin S10000x64.rank)
  reducesTo_S10000x64_S_d0_1 : S10000x64.ReducesTo [0, 1] S_

variable [Facts]

def fn {F : FTy → Type} [FloatOps F] (main_arg0 : FVec F S10000x64x128 .f32) (main_arg1 : FVec F S10000x64 .f32) (main_arg2 : FVec F S1024x128 .f32) (main_arg3 : FVec F S1024x10000 .f32) (main_arg4 : IVec S256 32) (main_arg5 : FVec F S_ .f32) : IVec S_ 1 :=
  let main_c : IVec S_ 32 := constantI S_ 32 0#32
  let main_v0 : IVec S256 32 := broadcastInDim S256 ![] bcast_S_S256 main_c
  let main_v1 : IVec S256 1 := cmpi .sge main_arg4 main_v0
  let main_c_0 : IVec S_ 32 := constantI S_ 32 10000#32
  let main_v2 : IVec S256 32 := broadcastInDim S256 ![] bcast_S_S256 main_c_0
  let main_v3 : IVec S256 1 := cmpi .slt main_arg4 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  let main_cst : FVec F S_ .f32 := constant S_ .f32 0xBF800000#32
  let main_v6 : FVec F S10000x64 .f32 := broadcastInDim S10000x64 ![] bcast_S_S10000x64 main_cst
  let main_v7 : IVec S10000x64 1 := cmpf .oge main_arg1 main_v6
  let main_c_2 : IVec S_ 1 := constantI S_ 1 1#1
  let main_v8 : IVec S_ 1 := (fun x v => Host.reduce IntOp.andi x v reducesTo_S10000x64_S_d0_1 h_S_) main_v7 main_c_2
  let main_v9 : IVec S_ 1 := andi main_v5 main_v8
  main_v9
-- ==== Kernel.lean ====
abbrev S10000x64x128 : Shape := ⟨3, ![10000, 64, 128]⟩
abbrev S10000x64 : Shape := ⟨2, ![10000, 64]⟩
abbrev S1024x128 : Shape := ⟨2, ![1024, 128]⟩
abbrev S1024x10000 : Shape := ⟨2, ![1024, 10000]⟩
abbrev S256 : Shape := ⟨1, ![256]⟩
abbrev S_ : Shape := ⟨0, ![]⟩
abbrev S10000x1x64 : Shape := ⟨3, ![10000, 1, 64]⟩
abbrev S10000x1024 : Shape := ⟨2, ![10000, 1024]⟩
abbrev S10000x1x1024 : Shape := ⟨3, ![10000, 1, 1024]⟩
abbrev S1 : Shape := ⟨1, ![1]⟩
abbrev S256x64x128 : Shape := ⟨3, ![256, 64, 128]⟩
abbrev S256x1x64 : Shape := ⟨3, ![256, 1, 64]⟩
abbrev S1x64x128 : Shape := ⟨3, ![1, 64, 128]⟩
abbrev S1x1x64 : Shape := ⟨3, ![1, 1, 64]⟩
abbrev S1x1x1024 : Shape := ⟨3, ![1, 1, 1024]⟩
abbrev S1x64 : Shape := ⟨2, ![1, 64]⟩
abbrev S1x1024 : Shape := ⟨2, ![1, 1024]⟩
abbrev S1x1152 : Shape := ⟨2, ![1, 1152]⟩
abbrev S128x1152 : Shape := ⟨2, ![128, 1152]⟩
abbrev S128x1 : Shape := ⟨2, ![128, 1]⟩
abbrev S1152 : Shape := ⟨1, ![1152]⟩
abbrev S64x1152 : Shape := ⟨2, ![64, 1152]⟩
abbrev S64x128 : Shape := ⟨2, ![64, 128]⟩
abbrev S1152x128 : Shape := ⟨2, ![1152, 128]⟩

abbrev nBuf : Space → Nat
  | .hbm => 14
  | .vmem => 19
  | .smem => 2
  | _ => 0

abbrev bufTy : (tb : Table) → Fin (tcTables nBuf tb) → BufTy
  | .hbm, ⟨0, _⟩ => ⟨S10000x64x128, .f32⟩
  | .hbm, ⟨1, _⟩ => ⟨S10000x64, .f32⟩
  | .hbm, ⟨2, _⟩ => ⟨S1024x128, .f32⟩
  | .hbm, ⟨3, _⟩ => ⟨S1024x10000, .f32⟩
  | .hbm, ⟨4, _⟩ => ⟨S_, .f32⟩
  | .hbm, ⟨5, _⟩ => ⟨S10000x1x64, .f32⟩
  | .hbm, ⟨6, _⟩ => ⟨S10000x1024, .f32⟩
  | .hbm, ⟨7, _⟩ => ⟨S10000x1x1024, .f32⟩
  | .hbm, ⟨8, _⟩ => ⟨S1, .f32⟩
  | .hbm, ⟨9, _⟩ => ⟨S256x64x128, .f32⟩
  | .hbm, ⟨10, _⟩ => ⟨S256x1x64, .f32⟩
  | .hbm, ⟨11, _⟩ => ⟨S10000x64x128, .f32⟩
  | .hbm, ⟨12, _⟩ => ⟨S10000x1x64, .f32⟩
  | .hbm, ⟨13, _⟩ => ⟨S10000x64, .f32⟩
  | .local _ .vmem, ⟨0, _⟩ => ⟨S1x64x128, .f32⟩
  | .local _ .vmem, ⟨1, _⟩ => ⟨S1x64x128, .f32⟩
  | .local _ .vmem, ⟨2, _⟩ => ⟨S1x1x64, .f32⟩
  | .local _ .vmem, ⟨3, _⟩ => ⟨S1x1x64, .f32⟩
  | .local _ .vmem, ⟨4, _⟩ => ⟨S1x64x128, .f32⟩
  | .local _ .vmem, ⟨5, _⟩ => ⟨S1x64x128, .f32⟩
  | .local _ .vmem, ⟨6, _⟩ => ⟨S1x1x64, .f32⟩
  | .local _ .vmem, ⟨7, _⟩ => ⟨S1x1x64, .f32⟩
  | .local _ .vmem, ⟨8, _⟩ => ⟨S1x64x128, .f32⟩
  | .local _ .vmem, ⟨9, _⟩ => ⟨S1x64x128, .f32⟩
  | .local _ .vmem, ⟨10, _⟩ => ⟨S1x1x64, .f32⟩
  | .local _ .vmem, ⟨11, _⟩ => ⟨S1x1x64, .f32⟩
  | .local _ .vmem, ⟨12, _⟩ => ⟨S1x1x1024, .f32⟩
  | .local _ .vmem, ⟨13, _⟩ => ⟨S1x1x1024, .f32⟩
  | .local _ .vmem, ⟨14, _⟩ => ⟨S1024x128, .f32⟩
  | .local _ .vmem, ⟨15, _⟩ => ⟨S1x64x128, .f32⟩
  | .local _ .vmem, ⟨16, _⟩ => ⟨S1x64x128, .f32⟩
  | .local _ .vmem, ⟨17, _⟩ => ⟨S1x1x64, .f32⟩
  | .local _ .vmem, ⟨18, _⟩ => ⟨S1x1x64, .f32⟩
  | .local _ .smem, ⟨0, _⟩ => ⟨S256, .i32⟩
  | .local _ .smem, ⟨1, _⟩ => ⟨S1, .f32⟩
  | _, _ => ⟨S10000x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![256], ![false]⟩

abbrev pre1 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (k1_off1_inb : ∀ i : grid1.Coords, ∀ a, (k1_off1 i) a + S1.size a ≤ S256.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S256) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (k1_off1_inb : ∀ i : grid1.Coords, ∀ a, (k1_off1 i) a + S1.size a ≤ S256.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S256) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_8 (k1_off1_inb : ∀ i : grid1.Coords, ∀ a, (k1_off1 i) a + S1.size a ≤ S256.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S256) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S10000x64x128 : Shape := ⟨3, ![10000, 64, 128]⟩
abbrev S10000x64 : Shape := ⟨2, ![10000, 64]⟩
abbrev S1024x128 : Shape := ⟨2, ![1024, 128]⟩
abbrev S1024x10000 : Shape := ⟨2, ![1024, 10000]⟩
abbrev S256 : Shape := ⟨1, ![256]⟩
abbrev S_ : Shape := ⟨0, ![]⟩
abbrev S256x1 : Shape := ⟨2, ![256, 1]⟩
abbrev S256x2 : Shape := ⟨2, ![256, 2]⟩
abbrev S256x1x64 : Shape := ⟨3, ![256, 1, 64]⟩
abbrev S256x64 : Shape := ⟨2, ![256, 64]⟩
abbrev S256x1024x1 : Shape := ⟨3, ![256, 1024, 1]⟩
abbrev S256x1024 : Shape := ⟨2, ![256, 1024]⟩
abbrev S256x1088 : Shape := ⟨2, ![256, 1088]⟩
abbrev S256x3 : Shape := ⟨2, ![256, 3]⟩
abbrev S256x1x64x128 : Shape := ⟨4, ![256, 1, 64, 128]⟩
abbrev S256x64x128 : Shape := ⟨3, ![256, 64, 128]⟩
abbrev S256x1024x128 : Shape := ⟨3, ![256, 1024, 128]⟩
abbrev S256x1088x128 : Shape := ⟨3, ![256, 1088, 128]⟩
abbrev S1088 : Shape := ⟨1, ![1088]⟩
abbrev S256x64x1 : Shape := ⟨3, ![256, 64, 1]⟩
abbrev S1 : Shape := ⟨1, ![1]⟩
abbrev S1x1x1 : Shape := ⟨3, ![1, 1, 1]⟩

abbrev nBuf : Space → Nat
  | .hbm => 183
  | .vmem => 0
  | .smem => 0
  | _ => 0

abbrev hbmTy0_0 (i : Nat) : BufTy := match i % 128 with
  | 0 => ⟨S10000x64x128, .f32⟩
  | 1 => ⟨S10000x64, .f32⟩
  | 2 => ⟨S1024x128, .f32⟩
  | 3 => ⟨S1024x10000, .f32⟩
  | 4 => ⟨S256, .i32⟩
  | 5 => ⟨S_, .f32⟩
  | 6 => ⟨S_, .i32⟩
  | 7 => ⟨S256, .i32⟩
  | 8 => ⟨S256, .i1⟩
  | 9 => ⟨S_, .i32⟩
  | 10 => ⟨S256, .i32⟩
  | 11 => ⟨S256, .i32⟩
  | 12 => ⟨S256, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S256x1, .i32⟩
  | 22 => ⟨S256x1, .i32⟩
  | 23 => ⟨S256x2, .i32⟩
  | 24 => ⟨S256x1x64, .f32⟩
  | 25 => ⟨S256x64, .f32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S256, .i32⟩
  | 36 => ⟨S256, .i1⟩
  | 37 => ⟨S_, .i32⟩
  | 38 => ⟨S256, .i32⟩
  | 39 => ⟨S256, .i32⟩
  | 40 => ⟨S256, .i32⟩
  | 41 => ⟨S256x1, .i32⟩
  | 42 => ⟨S256x1, .i32⟩
  | 43 => ⟨S256x2, .i32⟩
  | 44 => ⟨S256x1024x1, .f32⟩
  | 45 => ⟨S256x1024, .f32⟩
  | 46 => ⟨S256x1088, .f32⟩
  | 47 => ⟨S_, .i32⟩
  | 48 => ⟨S256, .i32⟩
  | 49 => ⟨S256, .i1⟩
  | 50 => ⟨S_, .i32⟩
  | 51 => ⟨S256, .i32⟩
  | 52 => ⟨S256, .i32⟩
  | 53 => ⟨S256, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S256x1, .i32⟩
  | 71 => ⟨S256x1, .i32⟩
  | 72 => ⟨S256x1, .i32⟩
  | 73 => ⟨S256x3, .i32⟩
  | 74 => ⟨S256x1x64x128, .f32⟩
  | 75 => ⟨S256x64x128, .f32⟩
  | 76 => ⟨S256x1024x128, .f32⟩
  | 77 => ⟨S256x1088x128, .f32⟩
  | 78 => ⟨S256x1088, .f32⟩
  | 79 => ⟨S1088, .i32⟩
  | 80 => ⟨S256x1088, .i32⟩
  | 81 => ⟨S256x1088, .f32⟩
  | 82 => ⟨S256x1088, .i32⟩
  | 83 => ⟨S256x64, .i32⟩
  | 84 => ⟨S_, .i32⟩
  | 85 => ⟨S256x64, .i32⟩
  | 86 => ⟨S256x64, .i1⟩
  | 87 => ⟨S_, .i32⟩
  | 88 => ⟨S256x64, .i32⟩
  | 89 => ⟨S256x64, .i32⟩
  | 90 => ⟨S256x64, .i32⟩
  | 91 => ⟨S256x64x1, .i32⟩
  | 92 => ⟨S1, .i32⟩
  | 93 => ⟨S_, .i32⟩
  | 94 => ⟨S256x64x1, .i32⟩
  | 95 => ⟨S256x64x1, .i1⟩
  | 96 => ⟨S1x1x1, .i32⟩
  | 97 => ⟨S256x64x1, .i32⟩
  | 98 => ⟨S256x64x1, .i1⟩
  | 99 => ⟨S256x64x1, .i1⟩
  | 100 => ⟨S_, .i1⟩
  | 101 => ⟨S256x64, .i1⟩
  | 102 => ⟨S256x64x128, .f32⟩
  | 103 => ⟨S256x64x128, .i1⟩
  | 104 => ⟨S_, .f32⟩
  | 105 => ⟨S256x64x128, .f32⟩
  | 106 => ⟨S256x64x128, .f32⟩
  | 107 => ⟨S_, .i32⟩
  | 108 => ⟨S256x64, .i32⟩
  | 109 => ⟨S256x64, .i1⟩
  | 110 => ⟨S_, .i32⟩
  | 111 => ⟨S256x64, .i32⟩
  | 112 => ⟨S256x64, .i32⟩
  | 113 => ⟨S256x64, .i32⟩
  | 114 => ⟨S256x64x1, .i32⟩
  | 115 => ⟨S1, .i32⟩
  | 116 => ⟨S_, .i32⟩
  | 117 => ⟨S256x64x1, .i32⟩
  | 118 => ⟨S256x64x1, .i1⟩
  | 119 => ⟨S1x1x1, .i32⟩
  | 120 => ⟨S256x64x1, .i32⟩
  | 121 => ⟨S256x64x1, .i1⟩
  | 122 => ⟨S256x64x1, .i1⟩
  | 123 => ⟨S_, .i1⟩
  | 124 => ⟨S256x64, .i1⟩
  | 125 => ⟨S256x64, .f32⟩
  | 126 => ⟨S_, .f32⟩
  | 127 => ⟨S256x64, .f32⟩
  | _ => ⟨S10000x64x128, .f32⟩

abbrev hbmTy0_1 (i : Nat) : BufTy := match i % 128 with
  | 0 => ⟨S256x64, .f32⟩
  | 1 => ⟨S_, .f32⟩
  | 2 => ⟨S_, .f32⟩
  | 3 => ⟨S_, .i32⟩
  | 4 => ⟨S256, .i32⟩
  | 5 => ⟨S256, .i1⟩
  | 6 => ⟨S_, .i32⟩
  | 7 => ⟨S256, .i32⟩
  | 8 => ⟨S256, .i32⟩
  | 9 => ⟨S256, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S256x1, .i32⟩
  | 27 => ⟨S256x1, .i32⟩
  | 28 => ⟨S256x1, .i32⟩
  | 29 => ⟨S256x3, .i32⟩
  | 30 => ⟨S256x1x64x128, .f32⟩
  | 31 => ⟨S256x64x128, .f32⟩
  | 32 => ⟨S256x64x128, .f32⟩
  | 33 => ⟨S256x64x128, .f32⟩
  | 34 => ⟨S256x64x128, .f32⟩
  | 35 => ⟨S256x64x128, .f32⟩
  | 36 => ⟨S256x64x128, .f32⟩
  | 37 => ⟨S_, .i32⟩
  | 38 => ⟨S256, .i32⟩
  | 39 => ⟨S256, .i1⟩
  | 40 => ⟨S_, .i32⟩
  | 41 => ⟨S256, .i32⟩
  | 42 => ⟨S256, .i32⟩
  | 43 => ⟨S256, .i32⟩
  | 44 => ⟨S256x1, .i32⟩
  | 45 => ⟨S10000x64x128, .f32⟩
  | 46 => ⟨S_, .i32⟩
  | 47 => ⟨S256, .i32⟩
  | 48 => ⟨S256, .i1⟩
  | 49 => ⟨S_, .i32⟩
  | 50 => ⟨S256, .i32⟩
  | 51 => ⟨S256, .i32⟩
  | 52 => ⟨S256, .i32⟩
  | 53 => ⟨S256x1, .i32⟩
  | 54 => ⟨S10000x64, .f32⟩
  | _ => ⟨S10000x64x128, .f32⟩

abbrev hbmTy (i : Nat) : BufTy := match i / 128 with
  | 0 => hbmTy0_0 i
  | 1 => hbmTy0_1 i
  | _ => ⟨S10000x64x128, .f32⟩

abbrev bufTy : (tb : Table) → Fin (tcTables nBuf tb) → BufTy
  | .hbm, ⟨i, _⟩ => hbmTy i
  | _, _ => ⟨S10000x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_c_2 : Ref sig .tc := ⟨.hbm, 14, rfl⟩
abbrev main_v5 : Ref sig .tc := ⟨.hbm, 15, rfl⟩
abbrev main_c_3 : Ref sig .tc := ⟨.hbm, 16, rfl⟩
abbrev main_c_4 : Ref sig .tc := ⟨.hbm, 17, rfl⟩
abbrev main_v6 : Ref sig .tc := ⟨.hbm, 18, rfl⟩
abbrev main_c_5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_6 : Ref sig .tc := ⟨.hbm, 26, rfl⟩
abbrev main_c_7 : Ref sig .tc := ⟨.hbm, 27, rfl⟩
abbrev main_v13 : Ref sig .tc := ⟨.hbm, 28, rfl⟩
abbrev main_c_8 : Ref sig .tc := ⟨.hbm, 29, rfl⟩
abbrev main_c_9 : Ref sig .tc := ⟨.hbm, 30, rfl⟩
abbrev main_v14 : Ref sig .tc := ⟨.hbm, 31, rfl⟩
abbrev main_c_10 : Ref sig .tc := ⟨.hbm, 32, rfl⟩
abbrev main_v15 : Ref sig .tc := ⟨.hbm, 33, rfl⟩
abbrev main_c_11 : Ref sig .tc := ⟨.hbm, 34, rfl⟩
abbrev main_v16 : Ref sig .tc := ⟨.hbm, 35, rfl⟩
abbrev main_v17 : Ref sig .tc := ⟨.hbm, 36, rfl⟩
abbrev main_c_12 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_13 : Ref sig .tc := ⟨.hbm, 47, rfl⟩
abbrev main_v27 : Ref sig .tc := ⟨.hbm, 48, rfl⟩
abbrev main_v28 : Ref sig .tc := ⟨.hbm, 49, rfl⟩
abbrev main_c_14 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_15 : Ref sig .tc := ⟨.hbm, 54, rfl⟩
abbrev main_c_16 : Ref sig .tc := ⟨.hbm, 55, rfl⟩
abbrev main_v32 : Ref sig .tc := ⟨.hbm, 56, rfl⟩
abbrev main_c_17 : Ref sig .tc := ⟨.hbm, 57, rfl⟩
abbrev main_c_18 : Ref sig .tc := ⟨.hbm, 58, rfl⟩
abbrev main_v33 : Ref sig .tc := ⟨.hbm, 59, rfl⟩
abbrev main_c_19 : Ref sig .tc := ⟨.hbm, 60, rfl⟩
abbrev main_v34 : Ref sig .tc := ⟨.hbm, 61, rfl⟩
abbrev main_c_20 : Ref sig .tc := ⟨.hbm, 62, rfl⟩
abbrev main_c_21 : Ref sig .tc := ⟨.hbm, 63, rfl⟩
abbrev main_v35 : Ref sig .tc := ⟨.hbm, 64, rfl⟩
abbrev main_c_22 : Ref sig .tc := ⟨.hbm, 65, rfl⟩
abbrev main_c_23 : Ref sig .tc := ⟨.hbm, 66, rfl⟩
abbrev main_v36 : Ref sig .tc := ⟨.hbm, 67, rfl⟩
abbrev main_c_24 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_call0_v0 : Ref sig .tc := ⟨.hbm, 79, rfl⟩
abbrev main_call0_v1 : Ref sig .tc := ⟨.hbm, 80, rfl⟩
abbrev main_call0_v2_0 : Ref sig .tc := ⟨.hbm, 81, rfl⟩
abbrev main_v47 : Ref sig .tc := ⟨.hbm, 82, rfl⟩
abbrev main_v48 : Ref sig .tc := ⟨.hbm, 83, rfl⟩
abbrev main_call1_c : Ref sig .tc := ⟨.hbm, 84, rfl⟩
abbrev main_call1_v0 : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_c_1 : Ref sig .tc := ⟨.hbm, 92, rfl⟩
abbrev main_call1_c_2 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_3 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_call1_cst : Ref sig .tc := ⟨.hbm, 104, rfl⟩
abbrev main_call1_v15 : Ref sig .tc := ⟨.hbm, 105, rfl⟩
abbrev main_v49 : Ref sig .tc := ⟨.hbm, 106, rfl⟩
abbrev main_call2_c : Ref sig .tc := ⟨.hbm, 107, rfl⟩
abbrev main_call2_v0 : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_c_1 : Ref sig .tc := ⟨.hbm, 115, rfl⟩
abbrev main_call2_c_2 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_c_3 : Ref sig .tc := ⟨.hbm, 123, rfl⟩
abbrev main_call2_v12 : Ref sig .tc := ⟨.hbm, 124, rfl⟩
abbrev main_call2_v13 : Ref sig .tc := ⟨.hbm, 125, rfl⟩
abbrev main_call2_cst : Ref sig .tc := ⟨.hbm, 126, rfl⟩
abbrev main_call2_v14 : Ref sig .tc := ⟨.hbm, 127, rfl⟩
abbrev main_v50 : Ref sig .tc := ⟨.hbm, 128, rfl⟩
abbrev main_cst : Ref sig .tc := ⟨.hbm, 129, rfl⟩
abbrev main_v51 : Ref sig .tc := ⟨.hbm, 130, rfl⟩
abbrev main_c_25 : Ref sig .tc := ⟨.hbm, 131, rfl⟩
abbrev main_v52 : Ref sig .tc := ⟨.hbm, 132, rfl⟩
abbrev main_v53 : Ref sig .tc := ⟨.hbm, 133, rfl⟩
abbrev main_c_26 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_c_27 : Ref sig .tc := ⟨.hbm, 138, rfl⟩
abbrev main_c_28 : Ref sig .tc := ⟨.hbm, 139, rfl⟩
abbrev main_v57 : Ref sig .tc := ⟨.hbm, 140, rfl⟩
abbrev main_c_29 : Ref sig .tc := ⟨.hbm, 141, rfl⟩
abbrev main_c_30 : Ref sig .tc := ⟨.hbm, 142, rfl⟩
abbrev main_v58 : Ref sig .tc := ⟨.hbm, 143, rfl⟩
abbrev main_c_31 : Ref sig .tc := ⟨.hbm, 144, rfl⟩
abbrev main_v59 : Ref sig .tc := ⟨.hbm, 145, rfl⟩
abbrev main_c_32 : Ref sig .tc := ⟨.hbm, 146, rfl⟩
abbrev main_c_33 : Ref sig .tc := ⟨.hbm, 147, rfl⟩
abbrev main_v60 : Ref sig .tc := ⟨.hbm, 148, rfl⟩
abbrev main_c_34 : Ref sig .tc := ⟨.hbm, 149, rfl⟩
abbrev main_c_35 : Ref sig .tc := ⟨.hbm, 150, rfl⟩
abbrev main_v61 : Ref sig .tc := ⟨.hbm, 151, rfl⟩
abbrev main_c_36 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_c_37 : Ref sig .tc := ⟨.hbm, 165, rfl⟩
abbrev main_v74 : Ref sig .tc := ⟨.hbm, 166, rfl⟩
abbrev main_v75 : Ref sig .tc := ⟨.hbm, 167, rfl⟩
abbrev main_c_38 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_c_39 : Ref sig .tc := ⟨.hbm, 174, rfl⟩
abbrev main_v81 : Ref sig .tc := ⟨.hbm, 175, rfl⟩
abbrev main_v82 : Ref sig .tc := ⟨.hbm, 176, rfl⟩
abbrev main_c_40 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩

abbrev nD : Nat := 1
abbrev τ : Topo := Topo.v7x

variable {F : FTy → Type} [FloatOps F]
-- ==== Proof.Bodies.lean ====
/- What the two kernel bodies do on whole staging buffers: the gather body copies its two inputs into its two
   outputs; the update body leaves the new means and the new scores, as the skeleton's payloads of its inputs. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The whole of a mean block, of a score block, of a score column, of the input means, of the coefficient. -/
abbrev rMu : Rect S1x64x128 := Rect.unit (s := S1x64x128) ![0, 0, 0] S1x64x128.size inb_S1x64x128_S1x64x128_0_0_0
abbrev rSc : Rect S1x1x64 := Rect.unit (s := S1x1x64) ![0, 0, 0] S1x1x64.size inb_S1x1x64_S1x1x64_0_0_0
abbrev rCol : Rect S1x1x1024 := Rect.unit (s := S1x1x1024) ![0, 0, 0] S1x1x1024.size inb_S1x1x1024_S1x1x1024_0_0_0
abbrev rIn : Rect S1024x128 := Rect.unit (s := S1024x128) ![0, 0] S1024x128.size inb_S1024x128_S1024x128_0_0
abbrev rCoe : Rect S1 := Rect.unit (s := S1) ![0] S1.size inb_S1_S1_0

/-- The gather body's two outputs. -/
def gMu (x0 : Vec F S1x64x128 .f32) : Vec F S1x64x128 .f32 := View.canon [⟨rMu, View.ld x0 rMu⟩]
def gSc (x1 : Vec F S1x1x64 .f32) : Vec F S1x1x64 .f32 := View.canon [⟨rSc, k0_pay1 (View.ld x1 rSc)⟩]

/-- One whole-block store covers the block. -/
theorem coverMu (p : Vec F S1x64x128 .f32) (y : S1x64x128.Idx) :
    ∃ pc ∈ ([⟨rMu, p⟩] : List (View.Piece (Elt F) S1x64x128 .f32)), y ∈ pc.1.set :=
  View.cover_of_tiled [⟨rMu, p⟩] S1x64x128.size (by rfl) y
theorem coverSc (p : Vec F S1x1x64 .f32) (y : S1x1x64.Idx) :
    ∃ pc ∈ ([⟨rSc, p⟩] : List (View.Piece (Elt F) S1x1x64 .f32)), y ∈ pc.1.set :=
  View.cover_of_tiled [⟨rSc, p⟩] S1x1x64.size (by rfl) y

set_option maxHeartbeats 1000000 in
/-- The gather body's triple. -/
theorem gather_triple (c : Dev nD) (E : Set ℕ) (i : grid0.Coords)
    (arg1 : Memref sig .tc .smem S256 .i32) (harg1 : arg1.IsWhole)
    (arg2 : Memref sig .tc .vmem S1x64x128 .f32) (harg2 : arg2.IsWhole) (arg3 : Memref sig .tc .vmem S1x1x64 .f32) (harg3 : arg3.IsWhole)
    (arg4 : Memref sig .tc .vmem S1x64x128 .f32) (harg4 : arg4.IsWhole) (arg5 : Memref sig .tc .vmem S1x1x64 .f32) (harg5 : arg5.IsWhole)
    (x0 : Vec F S1x64x128 .f32) (x1 : Vec F S1x1x64 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (gMu x0) ∗ owns (c : Thread nD τ) arg5 fullShare (gSc x1)) -∗ K ⟨⟩))
      ⊢ wp frame (wpE (defs₀ (F := F)) Variants.none c none) E
          (cc0__gather_body i arg1 harg1 arg2 harg2 arg3 harg3 arg4 harg4 arg5 harg5) K := by
  simp only [cc0__gather_body_eq_skeleton]; unfold cc0__gather_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverMu _)
  iexists _; isplitr
  swap; · iexact H3
  ipureintro
  exact View.read_writes_eq_canon _ _ _ (coverSc _)

/-- The column numbers and the row numbers of a chunk of the ranking. -/
abbrev colNo : IVec S128x1152 32 := iota .tc S128x1152 32 [1] iota_S128x1152_d1_w32
abbrev rowNo : IVec S128x1152 32 := iota .tc S128x1152 32 [0] iota_S128x1152_d0_w32

/-- The counts after chunks 0 to 2, 0 to 5 and 0 to 7, from the queue's scores and the input's column. -/
def cnt3 (v1 : Vec F S1x1x64 .f32) (v3 : Vec F S1x1x1024 .f32) : FVec F S1x1152 .f32 :=
  k1_pay8 (k1_pay2 v1 v3) (k1_pay3 v1 v3) k1_pay4 colNo (k1_pay5 v1 v3) (k1_pay6 v1 v3) (k1_pay7 v1 v3)
def cnt6 (v1 : Vec F S1x1x64 .f32) (v3 : Vec F S1x1x1024 .f32) : FVec F S1x1152 .f32 :=
  k1_pay10 (k1_pay2 v1 v3) (cnt3 v1 v3) (k1_pay9 (k1_pay2 v1 v3))
def cnt8 (v1 : Vec F S1x1x64 .f32) (v3 : Vec F S1x1x1024 .f32) : FVec F S1x1152 .f32 :=
  k1_pay11 (k1_pay2 v1 v3) (cnt6 v1 v3) rowNo 768#32

/-- The new scores and the new means the update body stores. -/
def newSc (v1 : Vec F S1x1x64 .f32) (v3 : Vec F S1x1x1024 .f32) : FVec F S1x1x64 .f32 :=
  k1_pay1 (k1_pay15 (k1_pay2 v1 v3) (cnt8 v1 v3) k1_pay12 colNo k1_pay13)
def newMu (x0 : Vec F S1x64x128 .f32) (v1 : Vec F S1x1x64 .f32) (v3 : Vec F S1x1x1024 .f32) (x3 : Vec F S1024x128 .f32) (q : Elt F .f32) :
    FVec F S1x64x128 .f32 :=
  k1_pay16 (k1_pay2 v1 v3) (cnt8 v1 v3) k1_pay12 colNo k1_pay13 x0 x3 q

/-- The update body's two outputs, of the blocks its inputs hold. -/
def uMu (x0 : Vec F S1x64x128 .f32) (x1 : Vec F S1x1x64 .f32) (x2 : Vec F S1x1x1024 .f32) (x3 : Vec F S1024x128 .f32) (x4 : Vec F S1 .f32) :
    Vec F S1x64x128 .f32 :=
  View.canon [⟨rMu, newMu (View.ld x0 rMu) (View.ld x1 rSc) (View.ld x2 rCol) (View.ld x3 rIn) (View.ld x4 rCoe (Shape.Idx.first (numel1_S1.symm ▸ Nat.one_pos)))⟩]
def uSc (x1 : Vec F S1x1x64 .f32) (x2 : Vec F S1x1x1024 .f32) : Vec F S1x1x64 .f32 :=
  View.canon [⟨rSc, newSc (View.ld x1 rSc) (View.ld x2 rCol)⟩]

set_option maxHeartbeats 1000000 in
/-- The update body's triple. -/
theorem update_triple (c : Dev nD) (E : Set ℕ) (i : grid1.Coords)
    (arg1 : Memref sig .tc .smem S256 .i32) (harg1 : arg1.IsWhole)
    (arg2 : Memref sig .tc .hbm S10000x64x128 .f32) (harg2 : arg2.IsWhole) (arg3 : Memref sig .tc .hbm S10000x1x64 .f32) (harg3 : arg3.IsWhole)
    (arg4 : Memref sig .tc .vmem S1x64x128 .f32) (harg4 : arg4.IsWhole) (arg5 : Memref sig .tc .vmem S1x1x64 .f32) (harg5 : arg5.IsWhole)
    (arg6 : Memref sig .tc .vmem S1x1x1024 .f32) (harg6 : arg6.IsWhole) (arg7 : Memref sig .tc .vmem S1024x128 .f32) (harg7 : arg7.IsWhole)
    (arg8 : Memref sig .tc .smem S1 .f32) (harg8 : arg8.IsWhole)
    (arg9 : Memref sig .tc .vmem S1x64x128 .f32) (harg9 : arg9.IsWhole) (arg10 : Memref sig .tc .vmem S1x1x64 .f32) (harg10 : arg10.IsWhole)
    (x0 : Vec F S1x64x128 .f32) (x1 : Vec F S1x1x64 .f32) (x2 : Vec F S1x1x1024 .f32) (x3 : Vec F S1024x128 .f32) (x4 : Vec F S1 .f32)
    (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4
        ∗ (∃ d, owns (c : Thread nD τ) arg9 fullShare d) ∗ (∃ d, owns (c : Thread nD τ) arg10 fullShare d)
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ owns (c : Thread nD τ) arg9 fullShare (uMu x0 x1 x2 x3 x4) ∗ owns (c : Thread nD τ) arg10 fullShare (uSc x1 x2)) -∗ K ⟨⟩))
      ⊢ wp frame (wpE (defs₀ (F := F)) Variants.none c none) E
          (cc1__update_body i arg1 harg1 arg2 harg2 arg3 harg3 arg4 harg4 arg5 harg5 arg6 harg6 arg7 harg7 arg8 harg8 arg9 harg9 arg10 harg10) K := by
  simp only [cc1__update_body_eq_skeleton]; unfold cc1__update_body_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverMu _)
  iexists _; isplitr
  swap; · iexact H6
  ipureintro
  exact View.read_writes_eq_canon _ _ _ (coverSc _)

end Cert.KernelIdeal.Hand

end
-- ==== Proof.Region0.lean ====
/- The gather call's region: its blocks, its proof data, its body obligation. -/
module

public import proofs.«01_k».proof.Proof.Bodies

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Pipeline (Dat Cfg Window BodyObligation cellOf)
open Cert.KernelIdeal.Gen

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-- Window `w`'s block at point `t`, read off its array as the region finds it. -/
def blk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The proof data: the arrays as entered, each input's buffer left at its block, each output's at the body's
    value of the blocks; the tables ride in the invariant. -/
def data0 (c : Dev nD) : Dat τ (Elt F) Unit ℕ (UR sig nD τ) ℕ (cfg0 a) c where
  A w := V c (Pipeline.arrRef spec0 w)
  after w t := match w with
    | ⟨0, _⟩ => blk0 a V c 0 t
    | ⟨1, _⟩ => blk0 a V c 1 t
    | ⟨2, _⟩ => gMu (blk0 a V c 0 t)
    | ⟨3, _⟩ => gSc (blk0 a V c 1 t)
  Φ _ := iprop((Pipeline.scopedRest spec0 c ∗ ∃ r, prngReg c r) ∗ Pipeline.prefHeld pre0 c (fun _ => fullShare) a.1)
  q _ := fullShare
  owed _ := 0

theorem data0_A (c : Dev nD) (w : Fin (cfg0 a).W) : (data0 a V c).A w = V c (Pipeline.arrRef spec0 w) := by
  dsimp only [data0]
theorem data0_after0 (c : Dev nD) (t : Fin (cfg0 a).N) : (data0 a V c).after 0 t = blk0 a V c 0 t := by dsimp only [data0]; rfl
theorem data0_after1 (c : Dev nD) (t : Fin (cfg0 a).N) : (data0 a V c).after 1 t = blk0 a V c 1 t := by dsimp only [data0]; rfl
theorem data0_after2 (c : Dev nD) (t : Fin (cfg0 a).N) : (data0 a V c).after 2 t = gMu (blk0 a V c 0 t) := by dsimp only [data0]; rfl
theorem data0_after3 (c : Dev nD) (t : Fin (cfg0 a).N) : (data0 a V c).after 3 t = gSc (blk0 a V c 1 t) := by dsimp only [data0]; rfl
/-- Each input's buffer holds its block when the body runs. -/
theorem data0_before0 (c : Dev nD) (t : Fin (cfg0 a).N) (d) : (data0 a V c).before 0 t d = blk0 a V c 0 t :=
  ((data0 a V c).before_in_eq_fetched 0 rfl (fun _ => rfl) (fun _ _ _ => rfl)
    (fun t => by rw [data0_after0]; unfold Dat.blockOf blk0; rw [data0_A]; try rfl) t d).trans
    (by unfold Dat.fetched Dat.blockOf blk0; rw [data0_A]; try rfl)
theorem data0_before1 (c : Dev nD) (t : Fin (cfg0 a).N) (d) : (data0 a V c).before 1 t d = blk0 a V c 1 t :=
  ((data0 a V c).before_in_eq_fetched 1 rfl (fun _ => rfl) (fun _ _ _ => rfl)
    (fun t => by rw [data0_after1]; unfold Dat.blockOf blk0; rw [data0_A]; try rfl) t d).trans
    (by unfold Dat.fetched Dat.blockOf blk0; rw [data0_A]; try rfl)

abbrev buf0 (t : Fin (cfg0 a).N) (w : Fin (cfg0 a).W) := ((cfg0 a).win w).stage ((cfg0 a).slots t w)

/-- The body at a point, on the current staging buffers. -/
def body0 (t : Fin (cfg0 a).N) : Prog (TpuEff nD τ sig (Elt F) Λ₀ .tc) PUnit :=
  cc0__gather_body (grid0.coords t) (Memref.whole main_arg4) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))

/-- The body's triple at a point. -/
theorem body0_triple (c : Dev nD) (t : Fin (cfg0 a).N) :
    iprop((data0 a V c).Φ t.castSucc ∗ (data0 a V c).owesAt () t.castSucc
      ∗ (∃ d, owns (c : Thread nD τ) (spec0_0.stage ((cfg0 a).slots t 0)) fullShare ((data0 a V c).before 0 t d))
      ∗ (∃ d, owns (c : Thread nD τ) (spec0_1.stage ((cfg0 a).slots t 1)) fullShare ((data0 a V c).before 1 t d))
      ∗ (∃ d, owns (c : Thread nD τ) (spec0_2.stage ((cfg0 a).slots t 2)) fullShare ((data0 a V c).before 2 t d))
      ∗ (∃ d, owns (c : Thread nD τ) (spec0_3.stage ((cfg0 a).slots t 3)) fullShare ((data0 a V c).before 3 t d)))
      ⊢ wp frame (wpE (defs₀ (F := F)) Variants.none c none) Set.univ (body0 a t) (fun _ =>
        iprop((data0 a V c).Φ t.succ ∗ (data0 a V c).owesAt () t.succ
          ∗ owns (c : Thread nD τ) (spec0_0.stage ((cfg0 a).slots t 0)) fullShare ((data0 a V c).after 0 t)
          ∗ owns (c : Thread nD τ) (spec0_1.stage ((cfg0 a).slots t 1)) fullShare ((data0 a V c).after 1 t)
          ∗ owns (c : Thread nD τ) (spec0_2.stage ((cfg0 a).slots t 2)) fullShare ((data0 a V c).after 2 t)
          ∗ owns (c : Thread nD τ) (spec0_3.stage ((cfg0 a).slots t 3)) fullShare ((data0 a V c).after 3 t))) := by
  unfold body0
  simp only [data0_before0, data0_before1]
  rw [show (data0 a V c).Φ t.succ = (data0 a V c).Φ t.castSucc from rfl,
    show (data0 a V c).owesAt () t.succ = (data0 a V c).owesAt () t.castSucc from rfl, data0_after0, data0_after1, data0_after2, data0_after3]
  iintro ⟨HΦ, Ho, ⟨%d0, H0⟩, ⟨%d1, H1⟩, ⟨%d2, H2⟩, ⟨%d3, H3⟩⟩
  iapply (gather_triple c Set.univ (grid0.coords t) _ _ _ _ _ _ _ _ _ _ (blk0 a V c 0 t) (blk0 a V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem row0 (t : Fin (cfg0 a).N) :
    defs₀ (F := F) .tc (cfg0 a).body ((cfg0 a).bodyArgs t ((cfg0 a).slots t)) = body0 a t := by
  unfold defs₀; rw [Defs.onTc_tc]; rfl

/-- The body obligation at every point. -/
theorem obligation0 (c : Dev nD) : BodyObligation (data0 a V c) (defs₀ (F := F)) Variants.none () Set.univ := fun t => by
  rw [bigSep_W0, bigSep_W0, row0]
  exact triple_restated (body0_triple a V c t) rfl .rfl fun _ => .rfl

end Cert.KernelIdeal.Hand

end
-- ==== Proof.Region1.lean ====
/- The update call's region: its blocks, its proof data, its body obligation. -/
module

public import proofs.«01_k».proof.Proof.Bodies

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Pipeline (Dat Cfg Window BodyObligation cellOf)
open Cert.KernelIdeal.Gen

variable {F : FTy → Type} [FloatOps F]

local notation "𝕄" => MT nD τ sig Unit (Elt F) ℕ (UR sig nD τ) ℕ

variable (a : (pcfg1 (F := F)).Adm)
variable (V : (c : Dev nD) → (b : Ref sig .tc) → Buf (Elt F) ((c : Thread nD τ).loc b))

/-- Window `w`'s block at point `t`, read off its array as the region finds it. -/
def blk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The proof data: the arrays as entered, each input's buffer left at its block, each output's at the body's
    value of the blocks; the tables ride in the invariant. -/
def data1 (c : Dev nD) : Dat τ (Elt F) Unit ℕ (UR sig nD τ) ℕ (cfg1 a) c where
  A w := V c (Pipeline.arrRef spec1 w)
  after w t := match w with
    | ⟨0, _⟩ => blk1 a V c 0 t
    | ⟨1, _⟩ => blk1 a V c 1 t
    | ⟨2, _⟩ => blk1 a V c 2 t
    | ⟨3, _⟩ => blk1 a V c 3 t
    | ⟨4, _⟩ => blk1 a V c 4 t
    | ⟨5, _⟩ => uMu (blk1 a V c 0 t) (blk1 a V c 1 t) (blk1 a V c 2 t) (blk1 a V c 3 t) (blk1 a V c 4 t)
    | ⟨6, _⟩ => uSc (blk1 a V c 1 t) (blk1 a V c 2 t)
  Φ _ := iprop((Pipeline.scopedRest spec1 c ∗ ∃ r, prngReg c r) ∗ Pipeline.prefHeld pre1 c (fun _ => fullShare) a.1)
  q _ := fullShare
  owed _ := 0

theorem data1_A (c : Dev nD) (w : Fin (cfg1 a).W) : (data1 a V c).A w = V c (Pipeline.arrRef spec1 w) := by
  dsimp only [data1]
theorem data1_after0 (c : Dev nD) (t : Fin (cfg1 a).N) : (data1 a V c).after 0 t = blk1 a V c 0 t := by dsimp only [data1]; rfl
theorem data1_after1 (c : Dev nD) (t : Fin (cfg1 a).N) : (data1 a V c).after 1 t = blk1 a V c 1 t := by dsimp only [data1]; rfl
theorem data1_after2 (c : Dev nD) (t : Fin (cfg1 a).N) : (data1 a V c).after 2 t = blk1 a V c 2 t := by dsimp only [data1]; rfl
theorem data1_after3 (c : Dev nD) (t : Fin (cfg1 a).N) : (data1 a V c).after 3 t = blk1 a V c 3 t := by dsimp only [data1]; rfl
theorem data1_after4 (c : Dev nD) (t : Fin (cfg1 a).N) : (data1 a V c).after 4 t = blk1 a V c 4 t := by dsimp only [data1]; rfl
theorem data1_after5 (c : Dev nD) (t : Fin (cfg1 a).N) : (data1 a V c).after 5 t = uMu (blk1 a V c 0 t) (blk1 a V c 1 t) (blk1 a V c 2 t) (blk1 a V c 3 t) (blk1 a V c 4 t) := by dsimp only [data1]; rfl
theorem data1_after6 (c : Dev nD) (t : Fin (cfg1 a).N) : (data1 a V c).after 6 t = uSc (blk1 a V c 1 t) (blk1 a V c 2 t) := by dsimp only [data1]; rfl
/-- Each input's buffer holds its block when the body runs. -/
theorem data1_before0 (c : Dev nD) (t : Fin (cfg1 a).N) (d) : (data1 a V c).before 0 t d = blk1 a V c 0 t :=
  ((data1 a V c).before_in_eq_fetched 0 rfl (fun _ => rfl) (fun _ _ _ => rfl)
    (fun t => by rw [data1_after0]; unfold Dat.blockOf blk1; rw [data1_A]; try rfl) t d).trans
    (by unfold Dat.fetched Dat.blockOf blk1; rw [data1_A]; try rfl)
theorem data1_before1 (c : Dev nD) (t : Fin (cfg1 a).N) (d) : (data1 a V c).before 1 t d = blk1 a V c 1 t :=
  ((data1 a V c).before_in_eq_fetched 1 rfl (fun _ => rfl) (fun _ _ _ => rfl)
    (fun t => by rw [data1_after1]; unfold Dat.blockOf blk1; rw [data1_A]; try rfl) t d).trans
    (by unfold Dat.fetched Dat.blockOf blk1; rw [data1_A]; try rfl)
theorem data1_before2 (c : Dev nD) (t : Fin (cfg1 a).N) (d) : (data1 a V c).before 2 t d = blk1 a V c 2 t :=
  ((data1 a V c).before_in_eq_fetched 2 rfl (fun _ => rfl) (fun _ _ _ => rfl)
    (fun t => by rw [data1_after2]; unfold Dat.blockOf blk1; rw [data1_A]; try rfl) t d).trans
    (by unfold Dat.fetched Dat.blockOf blk1; rw [data1_A]; try rfl)
theorem data1_before3 (c : Dev nD) (t : Fin (cfg1 a).N) (d) : (data1 a V c).before 3 t d = blk1 a V c 3 t :=
  ((data1 a V c).before_in_eq_fetched 3 rfl (fun _ => rfl) (fun _ _ _ => rfl)
    (fun t => by rw [data1_after3]; unfold Dat.blockOf blk1; rw [data1_A]; try rfl) t d).trans
    (by unfold Dat.fetched Dat.blockOf blk1; rw [data1_A]; try rfl)
theorem data1_before4 (c : Dev nD) (t : Fin (cfg1 a).N) (d) : (data1 a V c).before 4 t d = blk1 a V c 4 t :=
  ((data1 a V c).before_in_eq_fetched 4 rfl (fun _ => rfl) (fun _ _ _ => rfl)
    (fun t => by rw [data1_after4]; unfold Dat.blockOf blk1; rw [data1_A]; try rfl) t d).trans
    (by unfold Dat.fetched Dat.blockOf blk1; rw [data1_A]; try rfl)

abbrev buf1 (t : Fin (cfg1 a).N) (w : Fin (cfg1 a).W) := ((cfg1 a).win w).stage ((cfg1 a).slots t w)

/-- The body at a point, on the current staging buffers. -/
def body1 (t : Fin (cfg1 a).N) : Prog (TpuEff nD τ sig (Elt F) Λ₀ .tc) PUnit :=
  cc1__update_body (grid1.coords t) (Memref.whole main_arg4) (Memref.isWhole_whole _) (Memref.whole main_arg0) (Memref.isWhole_whole _) (Memref.whole main_v0) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (spec1_4.stage ((cfg1 a).slots t 4)) (hstage1_4 (((cfg1 a).slots t 4).cast nbuf1_4))
    (spec1_5.stage ((cfg1 a).slots t 5)) (hstage1_5 (((cfg1 a).slots t 5).cast nbuf1_5))
    (spec1_6.stage ((cfg1 a).slots t 6)) (hstage1_6 (((cfg1 a).slots t 6).cast nbuf1_6))

/-- The body's triple at a point. -/
theorem body1_triple (c : Dev nD) (t : Fin (cfg1 a).N) :
    iprop((data1 a V c).Φ t.castSucc ∗ (data1 a V c).owesAt () t.castSucc
      ∗ (∃ d, owns (c : Thread nD τ) (spec1_0.stage ((cfg1 a).slots t 0)) fullShare ((data1 a V c).before 0 t d))
      ∗ (∃ d, owns (c : Thread nD τ) (spec1_1.stage ((cfg1 a).slots t 1)) fullShare ((data1 a V c).before 1 t d))
      ∗ (∃ d, owns (c : Thread nD τ) (spec1_2.stage ((cfg1 a).slots t 2)) fullShare ((data1 a V c).before 2 t d))
      ∗ (∃ d, owns (c : Thread nD τ) (spec1_3.stage ((cfg1 a).slots t 3)) fullShare ((data1 a V c).before 3 t d))
      ∗ (∃ d, owns (c : Thread nD τ) (spec1_4.stage ((cfg1 a).slots t 4)) fullShare ((data1 a V c).before 4 t d))
      ∗ (∃ d, owns (c : Thread nD τ) (spec1_5.stage ((cfg1 a).slots t 5)) fullShare ((data1 a V c).before 5 t d))
      ∗ (∃ d, owns (c : Thread nD τ) (spec1_6.stage ((cfg1 a).slots t 6)) fullShare ((data1 a V c).before 6 t d)))
      ⊢ wp frame (wpE (defs₀ (F := F)) Variants.none c none) Set.univ (body1 a t) (fun _ =>
        iprop((data1 a V c).Φ t.succ ∗ (data1 a V c).owesAt () t.succ
          ∗ owns (c : Thread nD τ) (spec1_0.stage ((cfg1 a).slots t 0)) fullShare ((data1 a V c).after 0 t)
          ∗ owns (c : Thread nD τ) (spec1_1.stage ((cfg1 a).slots t 1)) fullShare ((data1 a V c).after 1 t)
          ∗ owns (c : Thread nD τ) (spec1_2.stage ((cfg1 a).slots t 2)) fullShare ((data1 a V c).after 2 t)
          ∗ owns (c : Thread nD τ) (spec1_3.stage ((cfg1 a).slots t 3)) fullShare ((data1 a V c).after 3 t)
          ∗ owns (c : Thread nD τ) (spec1_4.stage ((cfg1 a).slots t 4)) fullShare ((data1 a V c).after 4 t)
          ∗ owns (c : Thread nD τ) (spec1_5.stage ((cfg1 a).slots t 5)) fullShare ((data1 a V c).after 5 t)
          ∗ owns (c : Thread nD τ) (spec1_6.stage ((cfg1 a).slots t 6)) fullShare ((data1 a V c).after 6 t))) := by
  unfold body1
  simp only [data1_before0, data1_before1, data1_before2, data1_before3, data1_before4]
  rw [show (data1 a V c).Φ t.succ = (data1 a V c).Φ t.castSucc from rfl,
    show (data1 a V c).owesAt () t.succ = (data1 a V c).owesAt () t.castSucc from rfl, data1_after0, data1_after1, data1_after2, data1_after3, data1_after4, data1_after5, data1_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (update_triple c Set.univ (grid1.coords t) _ _ _ _ _ _ _ _ _ _ _ _ _ _ _ _ _ _ _ _
    (blk1 a V c 0 t) (blk1 a V c 1 t) (blk1 a V c 2 t) (blk1 a V c 3 t) (blk1 a V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row1 (t : Fin (cfg1 a).N) :
    defs₀ (F := F) .tc (cfg1 a).body ((cfg1 a).bodyArgs t ((cfg1 a).slots t)) = body1 a t := by
  unfold defs₀; rw [Defs.onTc_tc]; rfl

/-- The body obligation at every point. -/
theorem obligation1 (c : Dev nD) : BodyObligation (data1 a V c) (defs₀ (F := F)) Variants.none () Set.univ := fun t => by
  rw [bigSep_W1, bigSep_W1, row1]
  exact triple_restated (body1_triple a V c t) rfl .rfl fun _ => .rfl

end Cert.KernelIdeal.Hand

end
-- ==== Proof.Run.lean ====
/- The whole program's run: every buffer outside the kernels' own at the contents the segments leave, folded from
   the launch, at any admissible contents of the prefetched tables that the index argument holds. -/
module

public import proofs.«01_k».proof.Proof.Region0
public import proofs.«01_k».proof.Proof.Region1
public import Idealize.ShloMosaic.Lib.Pipeline.RegionArraysTS
public import Idealize.ShloMosaic.Lib.Pipeline.RegionsLoop
public import Idealize.ShloMosaic.Lib.Pipeline.FrameSuffix

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Pipeline (Dat Cfg Window BodyObligation cellOf)
open Cert.KernelIdeal.Gen

variable {F : FTy → Type} [FloatOps F]

local notation "𝕄" => MT nD τ sig Unit (Elt F) ℕ (UR sig nD τ) ℕ

variable (a : (p : Fin 2) → (pcfgs (F := F) p).Adm)
variable (m : (l : Loc nD τ sig) → Buf (Elt F) l) (ρ : Dev nD → PrngReg)

/-- The contents at each boundary: at launch, after each host stretch, after each call. -/
def W0 (c : Dev nD) : Valuation τ sig (Elt F) := fun b => m ((c : Dev nD), b)
def W1 (c : Dev nD) : Valuation τ sig (Elt F) := StableHlo.after hostOps0 (W0 m c)
def dat0 (c : Dev nD) : Dat τ (Elt F) Unit ℕ (UR sig nD τ) ℕ (cfg0 (a 0)) c := data0 (a 0) (fun c b => W1 m c (Proc.devRef .tc b)) c
def W2 (c : Dev nD) : Valuation τ sig (Elt F) := Pipeline.afterRegion (dat0 a m c) (W1 m c)
def W3 (c : Dev nD) : Valuation τ sig (Elt F) := StableHlo.after hostOps1 (W2 a m c)
def dat1 (c : Dev nD) : Dat τ (Elt F) Unit ℕ (UR sig nD τ) ℕ (cfg1 (a 1)) c := data1 (a 1) (fun c b => W3 a m c (Proc.devRef .tc b)) c
def W4 (c : Dev nD) : Valuation τ sig (Elt F) := Pipeline.afterRegion (dat1 a m c) (W3 a m c)
def W5 (c : Dev nD) : Valuation τ sig (Elt F) := StableHlo.after hostOps2 (W4 a m c)

/-- What the host stretches write, and that they write nothing else. -/
theorem fresh0 : (hostOps0 : List (HloOp τ sig (Elt F))).Forall fun op => op.fresh = ∅ := by
  simp only [hostOps0, List.forall_cons]; exact ⟨rfl, rfl, rfl, rfl, trivial⟩
theorem fresh1 : (hostOps1 : List (HloOp τ sig (Elt F))).Forall fun op => op.fresh = ∅ := by
  simp only [hostOps1, List.forall_cons]; exact ⟨rfl, rfl, trivial⟩
theorem fresh2 : (hostOps2 : List (HloOp τ sig (Elt F))).Forall fun op => op.fresh = ∅ := by
  simp only [hostOps2, List.forall_cons]; exact ⟨rfl, trivial⟩
abbrev wr0 : List (Ref sig .tc) := [main_v0, main_v1, main_v2, main_v3]
abbrev wr1 : List (Ref sig .tc) := [main_v5_0, main_v5_1]
abbrev wr2 : List (Ref sig .tc) := [main_v6]
theorem writes0 : (hostOps0 : List (HloOp τ sig (Elt F))).Forall fun op => op.writes ⊆ (wr0.map (Proc.devRef (τ := τ) .tc)).toFinset := by
  simp only [hostOps0, List.forall_cons, List.Forall, and_true]
  refine ⟨?_, ?_, ?_, ?_⟩ <;> exact Finset.singleton_subset_iff.mpr (by decide)
theorem writes1 : (hostOps1 : List (HloOp τ sig (Elt F))).Forall fun op => op.writes ⊆ (wr1.map (Proc.devRef (τ := τ) .tc)).toFinset := by
  simp only [hostOps1, List.forall_cons, List.Forall, and_true]
  refine ⟨?_, ?_⟩ <;> exact Finset.singleton_subset_iff.mpr (by decide)
theorem writes2 : (hostOps2 : List (HloOp τ sig (Elt F))).Forall fun op => op.writes ⊆ (wr2.map (Proc.devRef (τ := τ) .tc)).toFinset := by
  simp only [hostOps2, List.forall_cons, List.Forall, and_true]
  exact Finset.singleton_subset_iff.mpr (by decide)

theorem W1_of (c : Dev nD) (r : Ref sig .tc) (h : r ∉ wr0) : W1 m c (Proc.devRef .tc r) = W0 m c (Proc.devRef .tc r) :=
  StableHlo.after_of_writes_sub hostOps0 _ writes0 h
theorem W3_of (c : Dev nD) (r : Ref sig .tc) (h : r ∉ wr1) : W3 a m c (Proc.devRef .tc r) = W2 a m c (Proc.devRef .tc r) :=
  StableHlo.after_of_writes_sub hostOps1 _ writes1 h
theorem W5_of (c : Dev nD) (r : Ref sig .tc) (h : r ∉ wr2) : W5 a m c (Proc.devRef .tc r) = W4 a m c (Proc.devRef .tc r) :=
  StableHlo.after_of_writes_sub hostOps2 _ writes2 h

theorem W2_arr (c : Dev nD) (w : Fin 4) :
    W2 a m c (Proc.devRef .tc (Pipeline.arrRef spec0 w)) = (dat0 a m c).arrAt w (cfg0 (a 0)).N :=
  Pipeline.afterRegion_arr (dat0 a m c) (W1 m c) winFacts0.arr_inj w
theorem W4_arr (c : Dev nD) (w : Fin 7) :
    W4 a m c (Proc.devRef .tc (Pipeline.arrRef spec1 w)) = (dat1 a m c).arrAt w (cfg1 (a 1)).N :=
  Pipeline.afterRegion_arr (dat1 a m c) (W3 a m c) winFacts1.arr_inj w

/-- A buffer that is no output of a call is as the call found it. -/
theorem W2_of (c : Dev nD) (r : Ref sig .tc) (h : ∀ w : Fin 4, Pipeline.arrRef spec0 w = r → (spec0 w).isOut = false) :
    W2 a m c (Proc.devRef .tc r) = W1 m c (Proc.devRef .tc r) := by
  by_cases hw : ∃ w : Fin 4, Pipeline.arrRef spec0 w = r
  · obtain ⟨w, rfl⟩ := hw
    exact (W2_arr a m c w).trans (((dat0 a m c).arrAt_in w (h w rfl) _).trans (data0_A (a 0) _ c w))
  · exact Pipeline.afterRegion_of_not_arr (dat0 a m c) (W1 m c) fun w e => hw ⟨w, e.symm⟩
theorem W4_of (c : Dev nD) (r : Ref sig .tc) (h : ∀ w : Fin 7, Pipeline.arrRef spec1 w = r → (spec1 w).isOut = false) :
    W4 a m c (Proc.devRef .tc r) = W3 a m c (Proc.devRef .tc r) := by
  by_cases hw : ∃ w : Fin 7, Pipeline.arrRef spec1 w = r
  · obtain ⟨w, rfl⟩ := hw
    exact (W4_arr a m c w).trans (((dat1 a m c).arrAt_in w (h w rfl) _).trans (data1_A (a 1) _ c w))
  · exact Pipeline.afterRegion_of_not_arr (dat1 a m c) (W3 a m c) fun w e => hw ⟨w, e.symm⟩

abbrev argRefs : List (Ref sig .tc) := [main_arg0, main_arg1, main_arg2, main_arg3, main_arg4, main_arg5]

/-- The arguments are as launched at every boundary. -/
theorem W1_args (c : Dev nD) : ∀ r ∈ argRefs, W1 m c (Proc.devRef .tc r) = m ((c : Thread nD τ).loc r) :=
  fun r hr => W1_of m c r ((show ∀ r ∈ argRefs, r ∉ wr0 by decide +kernel) r hr)
theorem W2_args (c : Dev nD) : ∀ r ∈ argRefs, W2 a m c (Proc.devRef .tc r) = m ((c : Thread nD τ).loc r) :=
  fun r hr => (W2_of a m c r ((show ∀ r ∈ argRefs, ∀ w : Fin 4, Pipeline.arrRef spec0 w = r → (spec0 w).isOut = false by decide +kernel) r hr)).trans
    (W1_args m c r hr)
theorem W3_args (c : Dev nD) : ∀ r ∈ argRefs, W3 a m c (Proc.devRef .tc r) = m ((c : Thread nD τ).loc r) :=
  fun r hr => (W3_of a m c r ((show ∀ r ∈ argRefs, r ∉ wr1 by decide +kernel) r hr)).trans (W2_args a m c r hr)
theorem W4_args (c : Dev nD) : ∀ r ∈ argRefs, W4 a m c (Proc.devRef .tc r) = m ((c : Thread nD τ).loc r) :=
  fun r hr => (W4_of a m c r ((show ∀ r ∈ argRefs, ∀ w : Fin 7, Pipeline.arrRef spec1 w = r → (spec1 w).isOut = false by decide +kernel) r hr)).trans
    (W3_args a m c r hr)
theorem W5_args (c : Dev nD) : ∀ r ∈ argRefs, W5 a m c (Proc.devRef .tc r) = m ((c : Thread nD τ).loc r) :=
  fun r hr => (W5_of a m c r ((show ∀ r ∈ argRefs, r ∉ wr2 by decide +kernel) r hr)).trans (W4_args a m c r hr)

/-- The proof data of both calls. -/
def pdats : (p : Fin 2) → (c : Dev nD) → Dat τ (Elt F) Unit ℕ (UR sig nD τ) ℕ (Pipeline.pin (pcfgs (F := F)) a p) c
  | ⟨0, _⟩ => fun c => dat0 a m c
  | ⟨1, _⟩ => fun c => dat1 a m c

abbrev vars : Variants := Variants.none
/-- No core owes another anything; one index, at level 0 everywhere. -/
abbrev lvls : GSem nD τ sig → Finset Unit := fun g => if g.1.2 = .tc then {()} else ∅
abbrev lv : GSem nD τ sig → Unit → ℕ := fun _ _ => 0
abbrev reg (c : Dev nD) : sProp 𝕄 := iprop(∃ r, prngReg c r)
abbrev rest (c : Dev nD) : sProp 𝕄 := iprop((∃ W, owes (c : Thread nD τ) (0 : CellTallies nD τ sig Unit) W) ∗ reg c ∗ emp)

abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars lvls lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The tables the calls are taken at are the index argument's. -/
def TablesHeld : Prop := (∀ (c : Dev nD) (k : Fin 1), (a 0).1 k = m ((c : Thread nD τ).loc (pre0.ref k)))
  ∧ ∀ (c : Dev nD) (k : Fin 1), (a 1).1 k = m ((c : Thread nD τ).loc (pre1.ref k))

variable {a m}
theorem TablesHeld.at0 (h : TablesHeld a m) (c : Dev nD) (k : Fin 1) : (a 0).1 k = W1 m c (Proc.devRef .tc (pre0.ref k)) :=
  (h.1 c k).trans (W1_args m c (pre0.ref k) (by revert k; decide)).symm
theorem TablesHeld.at1 (h : TablesHeld a m) (c : Dev nD) (k : Fin 1) : (a 1).1 k = W3 a m c (Proc.devRef .tc (pre1.ref k)) :=
  (h.2 c k).trans (W3_args a m c (pre1.ref k) (by revert k; decide)).symm

variable (a m)

set_option backward.isDefEq.respectTransparency.types false in
/-- Waiting is at the one level, and nothing is owed. -/
theorem cut (p : Fin 2) : Pipeline.LevelCut (pcfgs (F := F)) a () lvls lv p (fun _ => 0) (fun _ : Dev nD => 0) where
  hι c w s := by simp only [lvls, ite_true]; exact Finset.mem_singleton.mpr rfl
  hιb _ _ _ := le_refl _
  hD _ _ _ h := absurd h (lt_irrefl _)

set_option backward.isDefEq.respectTransparency.types false in
/-- The gather call between its boundaries. -/
def reg0 (h : TablesHeld a m) : Pipeline.RegionSeg (pcfgs (F := F)) a (pdats a m) () defs₀ vars lvls lv 0 :=
  Pipeline.RegionSeg.ofHeldInT (pcfgs (F := F)) a (pdats a m) () defs₀ vars lvls lv 0 (fun _ => 0) (Pipeline.ucRefs τ sig) reg reg launch0
    (fun c => (obligation0 (a 0) (fun c b => W1 m c (Proc.devRef .tc b)) c).loose) (fun _ _ => rfl) (fun _ => rfl)
    (fun c => (pdats a m 0 c).share_full fun _ => rfl) (fun _ => .rfl) (fun _ => .rfl) (fun _ => 0) (cut a 0) (fun _ => iprop(emp)) (W1 m)
    (fun c w => rfl) h.at0

set_option backward.isDefEq.respectTransparency.types false in
/-- The update call between its boundaries. -/
def reg1 (h : TablesHeld a m) : Pipeline.RegionSeg (pcfgs (F := F)) a (pdats a m) () defs₀ vars lvls lv 1 :=
  Pipeline.RegionSeg.ofHeldInT (pcfgs (F := F)) a (pdats a m) () defs₀ vars lvls lv 1 (fun _ => 0) (Pipeline.ucRefs τ sig) reg reg launch1
    (fun c => (obligation1 (a 1) (fun c b => W3 a m c (Proc.devRef .tc b)) c).loose) (fun _ _ => rfl) (fun _ => rfl)
    (fun c => (pdats a m 1 c).share_full fun _ => rfl) (fun _ => .rfl) (fun _ => .rfl) (fun _ => 0) (cut a 1) (fun _ => iprop(emp)) (W3 a m)
    (fun c w => rfl) h.at1

/-- The program's five segments. -/
abbrev parts (h : TablesHeld a m) : List (Pipeline.Seg (pcfgs (F := F)) a (pdats a m) () defs₀ vars lvls lv) :=
  [ .host (stretch hostOps0 hostOps0_sub fresh0 (W0 m)),
    .region (reg0 a m h),
    .host (stretch hostOps1 hostOps1_sub fresh1 (W2 a m)),
    .region (reg1 a m h),
    .host (stretch hostOps2 hostOps2_sub fresh2 (W4 a m)) ]

theorem main_parts (h : TablesHeld a m) (c : Dev nD) : main (F := F) c = Pipeline.Seg.run (parts a m h) := (main_chain c).trans (by chain_rfl)

theorem no_unscoped : ∀ sm : SemLoc sig, sm.isScoped .tc = true := by decide

abbrev lastState (c : Dev nD) : sProp 𝕄 := iprop(StableHlo.held (c : Thread nD τ) (Pipeline.ucRefs τ sig) (W5 a m c) ∗ reg c)

theorem sub0 : Pipeline.arrRefs (τ := τ) spec0 ⊆ Pipeline.ucRefs τ sig := Pipeline.arrRefs_sub_ucRefs spec0 (by decide)
theorem tsub0 : Pipeline.tblRefs (τ := τ) (pcfgs (F := F) 0).pre ⊆ Pipeline.ucRefs τ sig := Pipeline.tblRefs_sub_ucRefs _ launch0.pre.unscoped
theorem tsub1 : Pipeline.tblRefs (τ := τ) (pcfgs (F := F) 1).pre ⊆ Pipeline.ucRefs τ sig := Pipeline.tblRefs_sub_ucRefs _ launch1.pre.unscoped
theorem sub1 : Pipeline.arrRefs (τ := τ) spec1 ⊆ Pipeline.ucRefs τ sig := Pipeline.arrRefs_sub_ucRefs spec1 (by decide)

set_option backward.isDefEq.respectTransparency.types false in
theorem enter0 (h : TablesHeld a m) (c : Dev nD) : iprop(StableHlo.held (c : Thread nD τ) (Pipeline.ucRefs τ sig) (W1 m c) ∗ rest c) ⊢ (reg0 a m h).pre c := by
  unfold reg0
  exact Pipeline.RegionSeg.ofHeldInT_pre (pcs := pcfgs (F := F)) (a := a) (pdats := pdats a m) (ι := ()) (defs₀ := defs₀) (𝒱₀ := vars) (L := lvls) (lv := lv) (p := 0)
    (D := fun _ => 0) (S := Pipeline.ucRefs τ sig) (X := reg) (Y := reg) (R := fun _ => iprop(emp)) (W := W1 m) sub0 tsub0 c
set_option backward.isDefEq.respectTransparency.types false in
theorem leave0 (h : TablesHeld a m) (c : Dev nD) : (reg0 a m h).post c ⊢ iprop(StableHlo.held (c : Thread nD τ) (Pipeline.ucRefs τ sig) (W2 a m c) ∗ rest c) := by
  unfold reg0
  exact Pipeline.RegionSeg.ofHeldInT_post (pcs := pcfgs (F := F)) (a := a) (pdats := pdats a m) (ι := ()) (defs₀ := defs₀) (𝒱₀ := vars) (L := lvls) (lv := lv) (p := 0)
    (D := fun _ => 0) (S := Pipeline.ucRefs τ sig) (X := reg) (Y := reg) (R := fun _ => iprop(emp)) (W := W1 m) sub0 tsub0 c
set_option backward.isDefEq.respectTransparency.types false in
theorem enter1 (h : TablesHeld a m) (c : Dev nD) : iprop(StableHlo.held (c : Thread nD τ) (Pipeline.ucRefs τ sig) (W3 a m c) ∗ rest c) ⊢ (reg1 a m h).pre c := by
  unfold reg1
  exact Pipeline.RegionSeg.ofHeldInT_pre (pcs := pcfgs (F := F)) (a := a) (pdats := pdats a m) (ι := ()) (defs₀ := defs₀) (𝒱₀ := vars) (L := lvls) (lv := lv) (p := 1)
    (D := fun _ => 0) (S := Pipeline.ucRefs τ sig) (X := reg) (Y := reg) (R := fun _ => iprop(emp)) (W := W3 a m) sub1 tsub1 c
set_option backward.isDefEq.respectTransparency.types false in
theorem leave1 (h : TablesHeld a m) (c : Dev nD) : (reg1 a m h).post c ⊢ iprop(StableHlo.held (c : Thread nD τ) (Pipeline.ucRefs τ sig) (W4 a m c) ∗ rest c) := by
  unfold reg1
  exact Pipeline.RegionSeg.ofHeldInT_post (pcs := pcfgs (F := F)) (a := a) (pdats := pdats a m) (ι := ()) (defs₀ := defs₀) (𝒱₀ := vars) (L := lvls) (lv := lv) (p := 1)
    (D := fun _ => 0) (S := Pipeline.ucRefs τ sig) (X := reg) (Y := reg) (R := fun _ => iprop(emp)) (W := W3 a m) sub1 tsub1 c

theorem chains (h : TablesHeld a m) : Pipeline.Seg.Chains (fun c => iprop(StableHlo.held (c : Thread nD τ) (Pipeline.ucRefs τ sig) (W0 m c) ∗ rest c)) (parts a m h)
    fun c => iprop(lastState a m c ∗ ∃ W, owes (c : Thread nD τ) (0 : CellTallies nD τ sig Unit) W) :=
  ⟨fun _ => .rfl, enter0 a m h, leave0 a m h, enter1 a m h, leave1 a m h, fun c => by
      dsimp only [Pipeline.Seg.post, stretch, Pipeline.HostSeg.ofOps]
      iintro ⟨Hh, HO, Hp, -⟩
      isplitl [Hh Hp]
      · isplitl [Hh]; · iexact Hh
        iexact Hp
      iexact HO⟩

set_option backward.isDefEq.respectTransparency.types false in
/-- Every run ends with every buffer outside the kernels at the last boundary's contents and every counter at zero. -/
theorem run (h : TablesHeld a m) : θ_run defs (onTc (τ := τ) (main (F := F))) ⟨m, fun _ => 0, ρ⟩ (fun r =>
      (∀ (c : Dev nD), ∀ b ∈ Pipeline.ucRefs τ sig, r.2.mem (((c : Thread nD τ)).1, b) = W5 a m c b) ∧ r.2.sem = fun _ => 0) :=
  Pipeline.θ_run_regions_kit_sems (pcfgs (F := F)) a (pdats a m) () (cellOf_inj a) emb₁ defs₀ vars lvls lv m ρ main (parts a m h)
    (fun c Q => by rw [main_parts a m h c])
    (by simp only [parts, Pipeline.Seg.pipes_host, Pipeline.Seg.pipes_region, Pipeline.Seg.pipes_nil]; decide)
    (O₀ := 0) (hL := fun _ hg => if_neg hg) (G := fun _ => iprop(emp))
    (u₀ := initOf (Pipeline.cells (Pipeline.pin (pcfgs (F := F)) a) (cellOf_inj a)) (Pipeline.launchToks (Pipeline.pin (pcfgs (F := F)) a) (cellOf_inj a)))
    (hu₀ := by
      iintro Hu; imodintro
      isplitl [Hu]
      · iapply (show (ownU (initOf (Pipeline.cells (Pipeline.pin (pcfgs (F := F)) a) (cellOf_inj a)) (Pipeline.launchToks (Pipeline.pin (pcfgs (F := F)) a) (cellOf_inj a))) : sProp 𝕄)
            ⊢ BI.own (emb₁ (initOf (Pipeline.cells (Pipeline.pin (pcfgs (F := F)) a) (cellOf_inj a)) (Pipeline.launchToks (Pipeline.pin (pcfgs (F := F)) a) (cellOf_inj a)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := lastState a m)
    (hch := chains a m h)
    (hinit := by
      refine Pipeline.initEach lvls lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (((c : Thread nD τ)).1, b) = W5 a m c b)
    (hfin := fun c s' => by
      iintro ⟨⟨Hh, -⟩, HSI⟩
      unfold StableHlo.held
      imodintro
      iapply (pointsTo_read_all (Pipeline.ucRefs τ sig) (fun b => (((c : Thread nD τ)).1, b)) (W5 a m c) s')
      isplitl [Hh] <;> iassumption)
    (hQ := fun s h hz => ⟨h, funext fun g => hz g (.inr (no_unscoped g.2))⟩)

end Cert.KernelIdeal.Hand

end
-- ==== Proof.Tables.lean ====
/- The prefetched table: what the index maps read of it, and that an index argument in range is admissible. -/
module

public import proofs.«01_k».proof.Proof.Run
public import Idealize.ShloMosaic.Lib.ValueIdxCore

@[expose] public section

set_option maxRecDepth 16384

noncomputable section

namespace Cert.KernelIdeal.Hand

open Idealize.ShloMosaic Idealize.ShloMosaic.TcCoe Idealize.ShloMosaic.ValueIdx
open Cert.KernelIdeal.Gen

variable {F : FTy → Type} [FloatOps F]

/-- The table read at grid point `i`. -/
theorem at_point0 (pf : pre0.Contents (Elt F)) (i : grid0.Coords) (h : ∀ a, (k0_off1 i) a + S1.size a ≤ S256.size a) :
    pf.at 0 (Rect.unit (s := S256) (k0_off1 i) S1.size h) numel1_S1 = pf 0 (ValueIdx.ix1 (i 0) : S256.Idx) := by
  unfold Pipeline.Prefetch.Contents.at
  refine congrArg (pf 0) (funext fun d => Fin.ext ?_)
  match d with
  | ⟨0, _⟩ =>
    show k0_off1 i 0 + 1 * 0 = (i 0).val
    rw [k0_off1_eq]; rfl
theorem at_point1 (pf : pre1.Contents (Elt F)) (i : grid1.Coords) (h : ∀ a, (k1_off1 i) a + S1.size a ≤ S256.size a) :
    pf.at 0 (Rect.unit (s := S256) (k1_off1 i) S1.size h) numel1_S1 = pf 0 (ValueIdx.ix1 (i 0) : S256.Idx) := by
  unfold Pipeline.Prefetch.Contents.at
  refine congrArg (pf 0) (funext fun d => Fin.ext ?_)
  match d with
  | ⟨0, _⟩ =>
    show k1_off1 i 0 + 1 * 0 = (i 0).val
    rw [k1_off1_eq]; rfl

/-- The word of a table at grid point `i`. -/
def word0 (pf : pre0.Contents (Elt F)) (i : grid0.Coords) : BitVec 32 := pf 0 (ValueIdx.ix1 (i 0) : S256.Idx)
def word1 (pf : pre1.Contents (Elt F)) (i : grid1.Coords) : BitVec 32 := pf 0 (ValueIdx.ix1 (i 0) : S256.Idx)

/-- The index maps through the table, in closed form. -/
theorem map00 (pf : pre0.Contents (Elt F)) (i : grid0.Coords) : cc0_transform_0 k0_off1_inb numel1_S1 pf i = ![(word0 pf i).toNat, 0, 0] := by
  unfold cc0_transform_0 word0; rw [← at_point0 pf i (k0_off1_inb i)]; rfl
theorem map01 (pf : pre0.Contents (Elt F)) (i : grid0.Coords) : cc0_transform_1 k0_off1_inb numel1_S1 pf i = ![(word0 pf i).toNat, 0, 0] := by
  unfold cc0_transform_1 word0; rw [← at_point0 pf i (k0_off1_inb i)]; rfl
theorem map14 (pf : pre1.Contents (Elt F)) (i : grid1.Coords) : cc1_transform_4 k1_off1_inb numel1_S1 pf i = ![(word1 pf i).toNat, 0, 0] := by
  unfold cc1_transform_4 word1; rw [← at_point1 pf i (k1_off1_inb i)]; rfl
theorem map17 (pf : pre1.Contents (Elt F)) (i : grid1.Coords) : cc1_transform_7 k1_off1_inb numel1_S1 pf i = ![(word1 pf i).toNat, 0, 0] := by
  unfold cc1_transform_7 word1; rw [← at_point1 pf i (k1_off1_inb i)]; rfl
theorem map18 (pf : pre1.Contents (Elt F)) (i : grid1.Coords) : cc1_transform_8 k1_off1_inb numel1_S1 pf i = ![(word1 pf i).toNat, 0, 0] := by
  unfold cc1_transform_8 word1; rw [← at_point1 pf i (k1_off1_inb i)]; rfl

/-- A table whose words are rows of the queue is admissible. -/
theorem ok0_of (pf : pre0.Contents (Elt F)) (h : ∀ i, (word0 pf i).toNat < 10000) : ok0 pf := by
  refine ⟨fun i => ⟨fun d => ?_, .inl rfl⟩, fun i => ⟨fun d => ?_, .inl rfl⟩⟩
  · rw [map00]; have := h i
    match d with
    | ⟨0, _⟩ => show ((word0 pf i).toNat + 1) * 1 ≤ 10000; omega
    | ⟨1, _⟩ => show (0 + 1) * 64 ≤ 64; omega
    | ⟨2, _⟩ => show (0 + 1) * 128 ≤ 128; omega
  · rw [map01]; have := h i
    match d with
    | ⟨0, _⟩ => show ((word0 pf i).toNat + 1) * 1 ≤ 10000; omega
    | ⟨1, _⟩ => show (0 + 1) * 1 ≤ 1; omega
    | ⟨2, _⟩ => show (0 + 1) * 64 ≤ 64; omega
theorem ok1_of (pf : pre1.Contents (Elt F)) (h : ∀ i, (word1 pf i).toNat < 10000) : ok1 pf := by
  refine ⟨fun i => ⟨fun d => ?_, .inl rfl⟩, fun i => ⟨fun d => ?_, .inl rfl⟩, fun i => ⟨fun d => ?_, .inl rfl⟩⟩
  · rw [map14]; have := h i
    match d with
    | ⟨0, _⟩ => show ((word1 pf i).toNat + 1) * 1 ≤ 10000; omega
    | ⟨1, _⟩ => show (0 + 1) * 1 ≤ 1; omega
    | ⟨2, _⟩ => show (0 + 1) * 1024 ≤ 1024; omega
  · rw [map17]; have := h i
    match d with
    | ⟨0, _⟩ => show ((word1 pf i).toNat + 1) * 1 ≤ 10000; omega
    | ⟨1, _⟩ => show (0 + 1) * 64 ≤ 64; omega
    | ⟨2, _⟩ => show (0 + 1) * 128 ≤ 128; omega
  · rw [map18]; have := h i
    match d with
    | ⟨0, _⟩ => show ((word1 pf i).toNat + 1) * 1 ≤ 10000; omega
    | ⟨1, _⟩ => show (0 + 1) * 1 ≤ 1; omega
    | ⟨2, _⟩ => show (0 + 1) * 64 ≤ 64; omega

variable (m : (l : Loc nD τ sig) → Buf (Elt F) l)

/-- The index argument at launch. -/
def idxArg : IVec S256 32 := m ((0 : Dev nD).tc.loc main_arg4)

/-- The tables the program prefetches: the index argument, twice. -/
def tables (h : ∀ i, (idxArg m i).toNat < 10000) : (p : Fin 2) → (pcfgs (F := F) p).Adm
  | ⟨0, _⟩ => ⟨fun k => m ((0 : Dev nD).tc.loc (pre0.ref k)), ok0_of _ fun i => h _⟩
  | ⟨1, _⟩ => ⟨fun k => m ((0 : Dev nD).tc.loc (pre1.ref k)), ok1_of _ fun i => h _⟩

theorem tables_held (h : ∀ i, (idxArg m i).toNat < 10000) : TablesHeld (tables m h) m :=
  ⟨fun c k => by rw [Subsingleton.elim c 0]; rfl, fun c k => by rw [Subsingleton.elim c 0]; rfl⟩

/-- The arguments end as launched and every counter at zero. -/
theorem unchanged (ρ : Dev nD → PrngReg) (h : ∀ i, (idxArg m i).toNat < 10000) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r hr => ⟨fun c => by
    have key : ∀ b ∈ argRefs, r.2.mem ((c.tc : Thread nD τ).loc b) = m ((c.tc : Thread nD τ).loc b) := fun b hb =>
      (hr.1 c _ (mem_uc b ((show ∀ b ∈ argRefs, ¬ (Proc.devRef .tc b : DevRef τ sig).isScoped by decide) b hb))).trans (W5_args (tables m h) m c b hb)
    exact ⟨key _ (by decide), key _ (by decide), key _ (by decide), key _ (by decide), key _ (by decide), key _ (by decide)⟩, hr.2⟩)
    (run (tables m h) m ρ (tables_held m h))

end Cert.KernelIdeal.Hand

end
-- ==== Proof.Range.lean ====
module

public import proofs.«01_k».proof.Defs
public import proofs.«01_k».proof.Proof.Tables
public import Idealize.ShloMosaic.Lib.ReduceAll
public import Idealize.ShloMosaic.Lib.WordArith
public import Idealize.ShloMosaic.Lib.Affine

/-! What the range precondition says of the arguments: every index lies below 10000. -/

@[expose] public section

noncomputable section

namespace Cert.Hand

open Idealize.ShloMosaic Idealize.SL.Sem

theorem rangeFacts : Cert.Pre_in_range.Facts := ⟨by decide⟩

variable {F : FTy → Type} [FloatOps F]

/-- A word that is at least 0 and below 10000 as a signed number is below 10000 as a natural number. -/
theorem lt_of_tests (w : BitVec 32)
    (h : (IntOp.andi (IntOp.cmpi .sge w 0#32) (IntOp.cmpi .slt w 10000#32)) = 1#1) : w.toNat < 10000 := by
  rw [IntOp.andi_eq_one] at h
  obtain ⟨h0, h1⟩ := h
  have e0 : BitVec.sle 0#32 w = true := by
    have : BitVec.ofBool (BitVec.sle 0#32 w) = 1#1 := h0
    revert this; cases BitVec.sle 0#32 w <;> simp
  have e1 : BitVec.slt w 10000#32 = true := by
    have : BitVec.ofBool (BitVec.slt w 10000#32) = 1#1 := h1
    revert this; cases BitVec.slt w 10000#32 <;> simp
  rw [BitVec.sle_iff_toInt_le] at e0
  rw [BitVec.slt_iff_toInt_lt] at e1
  have : (10000#32).toInt = 10000 := by decide
  have z : (0#32).toInt = 0 := by decide
  rw [this] at e1; rw [z] at e0
  rw [BitVec.toInt_eq_toNat_cond] at e0 e1
  split at e0 <;> omega

/-- The range precondition bounds every index. -/
theorem in_range_lt (a0 : FVec F Pre_in_range.S10000x64x128 .f32) (a1 : FVec F Pre_in_range.S10000x64 .f32)
    (a2 : FVec F Pre_in_range.S1024x128 .f32) (a3 : FVec F Pre_in_range.S1024x10000 .f32) (a4 : IVec Pre_in_range.S256 32)
    (a5 : FVec F Pre_in_range.S_ .f32)
    (h : (letI := rangeFacts; Cert.Pre_in_range.fn a0 a1 a2 a3 a4 a5) = fun _ => 1#1) (i : Pre_in_range.S256.Idx) :
    (a4 i).toNat < 10000 :=
  lt_of_tests _ (congrFun h i)

end Cert.Hand

end
-- ==== Proof.Frames.lean ====
module

public import proofs.«01_k».proof.Defs
public import proofs.«01_k».proof.Proof.Range
public import proofs.«01_k».proof.Proof.Machine.Tables
public import proofs.«01_k».proof.Proof.Gen.ReferenceIdeal.Run

/-! The frames of the three programs: each runs, leaves its arguments unchanged and its counters at zero. -/

@[expose] public section

set_option maxRecDepth 16384

noncomputable section

namespace Cert.Hand

open Idealize.ShloMosaic Idealize.SL.Sem

theorem frame_ideal : Cert.quiescent_KernelIdeal (hKernelIdeal := Cert.KernelIdeal.Gen.facts) (hPre_in_range := rangeFacts) :=
  fun m g h => Cert.KernelIdeal.Hand.unchanged m g (in_range_lt _ _ _ _ _ _ (h 0))

theorem frame_reference : Cert.quiescent_ReferenceIdeal (hReferenceIdeal := Cert.ReferenceIdeal.Gen.facts) :=
  fun m g _ => (θ_run _ _ _).mono (fun r h => ⟨fun c => (h c).2.2, sem_eq_zero_of_no_sems (by decide) r.2⟩)
    (Cert.ReferenceIdeal.Value.run (F := Ideal) m g)

theorem frame_bits : Cert.quiescent_Kernel (hKernel := Cert.Kernel.Gen.facts) (hPre_in_range := rangeFacts) :=
  fun m g h => Cert.Kernel.Hand.unchanged m g (in_range_lt _ _ _ _ _ _ (h 0))

end Cert.Hand

end
-- ==== Proof.Ranked.lean ====
module

public import proofs.«01_k».proof.Defs
public import proofs.«01_k».proof.Proof.Frames

/-! What the value claim's precondition says of the arguments, and the frames under it. -/

@[expose] public section

set_option maxRecDepth 16384

noncomputable section

namespace Cert.Hand

open Idealize.ShloMosaic Idealize.SL.Sem

theorem rankedFacts : Cert.Pre_ranked.Facts := ⟨by decide, by decide, by decide, by decide, by decide⟩

variable {F : FTy → Type} [FloatOps F]

/-- The precondition of the value claim bounds every index, and every queue score from below. -/
theorem ranked_lt (a0 : FVec F Pre_ranked.S10000x64x128 .f32) (a1 : FVec F Pre_ranked.S10000x64 .f32)
    (a2 : FVec F Pre_ranked.S1024x128 .f32) (a3 : FVec F Pre_ranked.S1024x10000 .f32) (a4 : IVec Pre_ranked.S256 32)
    (a5 : FVec F Pre_ranked.S_ .f32)
    (h : (letI := rankedFacts; Cert.Pre_ranked.fn a0 a1 a2 a3 a4 a5) = fun _ => 1#1) :
    (∀ i : Pre_ranked.S256.Idx, (a4 i).toNat < 10000)
      ∧ ∀ i : Pre_ranked.S10000x64.Idx, FloatOps.cmpf (F := F) (φ := .f32) .oge (a1 i) (FloatOps.ofBits .f32 0xBF800000#32) = 1#1 := by
  haveI : Subsingleton Pre_ranked.S_.Idx := ⟨fun a b => funext fun d => d.elim0⟩
  have e := congrFun h (fun d => d.elim0)
  have e' := (IntOp.andi_eq_one).1 e
  exact ⟨fun i => lt_of_tests _ (Host.reduce_andi_all _ _ _ _ _ e'.1 i),
    fun i => Host.reduce_andi_all _ _ _ _ _ e'.2 i⟩

theorem frame_ideal_ranked :
    Cert.quiescent_KernelIdeal_pre_ranked (hKernelIdeal := Cert.KernelIdeal.Gen.facts) (hPre_ranked := rankedFacts) :=
  fun m g h => Cert.KernelIdeal.Hand.unchanged m g (ranked_lt _ _ _ _ _ _ (h 0)).1

theorem frame_reference_ranked :
    Cert.quiescent_ReferenceIdeal_pre_ranked (hReferenceIdeal := Cert.ReferenceIdeal.Gen.facts) (hPre_ranked := rankedFacts) :=
  fun m g _ => frame_reference m g trivial

end Cert.Hand

end
-- ==== Proof.Chunks.lean ====
module

public import proofs.«01_k».proof.Proof.Bodies

/-! The update body's rank counts, chunk by chunk: the skeleton's nine chunks are one and the same expression at nine
row offsets, added up from zero. -/

@[expose] public section

set_option maxRecDepth 16384

noncomputable section

namespace Cert.KernelIdeal.Hand

open Idealize.ShloMosaic Idealize.SL.Sem
open Cert.KernelIdeal.Gen

variable {F : FTy → Type} [FloatOps F]

/-- The entry numbers of the rows of a chunk that starts at `c`. -/
def chunkRows (c : BitVec 32) : IVec S128x1152 32 := addi rowNo (broadcast S128x1152 c)

/-- A chunk's scores, one per row, repeated along the row: picked from the scores by a one-hot product. -/
def rowScore (c : BitVec 32) (s : FVec F S1x1152 .f32) : FVec F S128x1152 .f32 :=
  broadcastTo S128x1152 (shapeCast S128x1 (matmul dot_S128x1152_S1x1152_S128x1_1_1_0_0_n_n (some .fp32)
    (sitofp .f32 (extui 32 (cmpi .eq (chunkRows c) colNo) natLt_1_32)) s (constant S128x1 .f32 0x00000000#32))
    shapeCasts_S128x1_S128x1) broadcasts_S128x1_S128x1152

/-- All scores, repeated down the rows. -/
def colScore (s : FVec F S1x1152 .f32) : FVec F S128x1152 .f32 :=
  broadcastTo S128x1152 (shapeCast S1x1152 s shapeCasts_S1x1152_S1x1152) broadcasts_S1x1152_S128x1152

/-- One chunk's part of every rank: how many of the chunk's entries come before. -/
def chunk (c : BitVec 32) (s : FVec F S1x1152 .f32) : FVec F S1x1152 .f32 :=
  shapeCast S1x1152 (multiReduction .add [0] S1152
    (addf (sitofp .f32 (extui 32 (cmpf .ogt (rowScore c s) (colScore s)) natLt_1_32))
      (sitofp .f32 (extui 32 (andi (cmpf .oeq (rowScore c s) (colScore s)) (cmpi .slt (chunkRows c) colNo)) natLt_1_32)))
    0x00000000#32 reduces_S128x1152_S1152 (.inl rfl) rfl) shapeCasts_S1152_S1x1152

/-- The rank of every score: the nine chunks' parts, added up from zero. -/
def ranks (s : FVec F S1x1152 .f32) : FVec F S1x1152 .f32 :=
  addf (addf (addf (addf (addf (addf (addf (addf (addf (broadcast S1x1152 (Scalar.ofBits .f32 0x00000000#32)) (chunk 0#32 s))
    (chunk 128#32 s)) (chunk 256#32 s)) (chunk 384#32 s)) (chunk 512#32 s)) (chunk 640#32 s)) (chunk 768#32 s)) (chunk 896#32 s))
    (chunk 1024#32 s)

/-- The selection: row `r` marks the entries whose rank is `r`. -/
def pick (s : FVec F S1x1152 .f32) : FVec F S64x1152 .f32 :=
  sitofp .f32 (extui 32 (cmpi .eq (broadcastTo S64x1152 (shapeCast S1x1152 (fptosi 32 (ranks s)) shapeCasts_S1x1152_S1x1152)
    broadcasts_S1x1152_S64x1152) (iota .tc S64x1152 32 [0] iota_S64x1152_d0_w32)) natLt_1_32)

/-- The first three chunks. -/
theorem cnt3_eq (v1 : Vec F S1x1x64 .f32) (v3 : Vec F S1x1x1024 .f32) :
    cnt3 v1 v3 = addf (addf (addf (broadcast S1x1152 (Scalar.ofBits .f32 0x00000000#32)) (chunk 0#32 (k1_pay2 v1 v3)))
      (chunk 128#32 (k1_pay2 v1 v3))) (chunk 256#32 (k1_pay2 v1 v3)) := rfl

/-- Six chunks. -/
theorem cnt6_eq (v1 : Vec F S1x1x64 .f32) (v3 : Vec F S1x1x1024 .f32) :
    cnt6 v1 v3 = addf (addf (addf (cnt3 v1 v3) (chunk 384#32 (k1_pay2 v1 v3))) (chunk 512#32 (k1_pay2 v1 v3)))
      (chunk 640#32 (k1_pay2 v1 v3)) := rfl

/-- Eight chunks. -/
theorem cnt8_eq (v1 : Vec F S1x1x64 .f32) (v3 : Vec F S1x1x1024 .f32) :
    cnt8 v1 v3 = addf (addf (cnt6 v1 v3) (chunk 768#32 (k1_pay2 v1 v3))) (chunk 896#32 (k1_pay2 v1 v3)) := rfl

/-- The selection matrix the body multiplies by. -/
theorem pick_eq (v1 : Vec F S1x1x64 .f32) (v3 : Vec F S1x1x1024 .f32) :
    k1_pay14 (k1_pay2 v1 v3) (cnt8 v1 v3) k1_pay12 colNo k1_pay13 = pick (k1_pay2 v1 v3) := by
  rw [cnt8_eq, cnt6_eq, cnt3_eq]; rfl

end Cert.KernelIdeal.Hand

end
-- ==== Proof.Order.lean ====
module

public import Idealize.ShloMosaic.Lib.SortFacts
public import Mathlib.Data.EReal.Operations

/-! Ranks in a descending order of scores, ties by position: an entry's rank is the number of entries before it. The stable
sort puts rank `r` at position `r`, and padding behind the entries moves no rank below a bound. -/

@[expose] public section

namespace Cert.Rank

open Idealize.ShloMosaic Finset

variable {n : ℕ}

/-- Entry `i` comes before entry `j`: a larger score, or the same score at a smaller position. -/
def Before (s : Fin n → EReal) (i j : Fin n) : Prop := s j < s i ∨ (s i = s j ∧ i < j)

theorem Before.irrefl (s : Fin n → EReal) (i : Fin n) : ¬ Before s i i := by
  rintro (h | ⟨_, h⟩) <;> exact absurd h (lt_irrefl _)

theorem Before.trans {s : Fin n → EReal} {i j k : Fin n} (h : Before s i j) (h' : Before s j k) : Before s i k := by
  rcases h with h | ⟨e, l⟩ <;> rcases h' with h' | ⟨e', l'⟩
  · exact .inl (h'.trans h)
  · exact .inl (e' ▸ h)
  · exact .inl (e ▸ h')
  · exact .inr ⟨e.trans e', l.trans l'⟩

theorem Before.total {s : Fin n → EReal} {i j : Fin n} (h : i ≠ j) : Before s i j ∨ Before s j i := by
  rcases lt_trichotomy (s i) (s j) with g | g | g
  · exact .inr (.inl g)
  · rcases lt_or_gt_of_ne h with l | l
    · exact .inl (.inr ⟨g, l⟩)
    · exact .inr (.inr ⟨g.symm, l⟩)
  · exact .inl (.inl g)

open Classical in
/-- The rank of entry `j`: how many entries come before it. -/
noncomputable def rankOf (s : Fin n → EReal) (j : Fin n) : ℕ := (univ.filter fun i => Before s i j).card

theorem rankOf_lt {s : Fin n → EReal} {i j : Fin n} (h : Before s i j) : rankOf s i < rankOf s j := by
  classical
  refine card_lt_card (ssubset_iff_of_subset (fun k hk => ?_) |>.2 ⟨i, ?_, ?_⟩)
  · simp only [mem_filter, mem_univ, true_and] at hk ⊢
    exact hk.trans h
  · simpa using h
  · simpa using Before.irrefl s i

/-- Two entries never have the same rank. -/
theorem rankOf_injective (s : Fin n → EReal) : Function.Injective (rankOf s) := fun i j e => by
  by_contra h
  rcases Before.total (s := s) h with g | g
  · exact absurd e (rankOf_lt g).ne
  · exact absurd e (rankOf_lt g).ne'

/-- An enumeration that lists every entry, each after all those before it, lists rank `r` at place `r`. -/
theorem rankOf_enum (s : Fin n → EReal) (σ : Fin n → Fin n) (hb : Function.Bijective σ)
    (ho : ∀ i j, i < j → Before s (σ i) (σ j)) (r : Fin n) : rankOf s (σ r) = r := by
  classical
  have e : (univ.filter fun i => Before s i (σ r)) = (univ.filter fun i : Fin n => i < r).image σ := by
    ext i
    simp only [mem_filter, mem_univ, true_and, mem_image]
    constructor
    · intro h
      obtain ⟨k, rfl⟩ := hb.2 i
      refine ⟨k, ?_, rfl⟩
      by_contra hk
      rcases (not_lt.1 hk).lt_or_eq with g | g
      · exact Before.irrefl s _ (h.trans (ho _ _ g))
      · exact Before.irrefl s _ (g ▸ h)
    · rintro ⟨k, hk, rfl⟩
      exact ho _ _ hk
  unfold rankOf
  rw [e, card_image_of_injective _ hb.1, show (univ.filter fun i : Fin n => i < r) = Iio r by ext i; simp, Fin.card_Iio]

/-- The stable sort by "strictly larger score first" has the entry of rank `r` at place `r`. -/
theorem rankOf_sortedFrom (s : Fin n → EReal) (B : Fin n → Fin n → Bool) (hB : ∀ i j, B i j = true ↔ s j < s i)
    (r : Fin n) : rankOf s (sortedFrom B r) = r := by
  classical
  -- the stable sort is the sort by the refined order
  have hR : sortedFrom B = sortedFrom (fun i j => decide (Before s i j)) := by
    have key : ∀ l : List (Fin n), l.Pairwise (· < ·) →
        stableSort B l = stableSort (fun i j => decide (Before s i j)) l := by
      intro l hl
      induction l with
      | nil => rfl
      | cons a l ih =>
        rw [List.pairwise_cons] at hl
        unfold stableSort
        rw [← ih hl.2]
        refine insertBefore_congr B _ a _ fun b hb => ?_
        have hb' : b ∈ l := (perm_stableSort B l).mem_iff.1 hb
        have hab : a < b := hl.1 b hb'
        rw [Bool.eq_iff_iff, hB, decide_eq_true_iff]
        constructor
        · exact .inl
        · rintro (h | ⟨_, h⟩)
          · exact h
          · exact absurd h (not_lt.2 hab.le)
    funext k
    unfold sortedFrom
    have e := key (List.finRange n) (List.pairwise_lt_finRange n)
    unfold sortPositions
    simp only [List.get_eq_getElem, e]
    rfl
  rw [hR]
  refine rankOf_enum s _ ⟨sortedFrom_injective _, sortedFrom_surjective _⟩ (fun i j hij => ?_) r
  have h := sortedFrom_noInversion (fun i j => decide (Before s i j)) (fun i j => decide (Before s i j))
    (fun a b h => by
      rw [decide_eq_true_iff] at h; rw [decide_eq_false_iff_not]
      exact fun h' => Before.irrefl s _ (h.trans h'))
    (fun a b h => h)
    (fun a b c h h' => by
      rw [decide_eq_false_iff_not] at h h' ⊢
      intro hac
      by_cases e : a = b
      · subst e; exact h' hac
      · rcases Before.total (s := s) e with g | g
        · exact h g
        · exact h' (g.trans hac)) i j hij
  rw [decide_eq_false_iff_not] at h
  exact (Before.total (fun e => hij.ne (sortedFrom_injective _ e))).resolve_right h

/-- Padding: the entries of `s'` are those of `s` followed by copies of a value `p`. If at least `k` entries of `s` are at
    least `p`, then an entry of `s'` has rank `r < k` exactly when it is the entry of `s` of rank `r`. -/
theorem rankOf_padded {n' k : ℕ} (hn : n ≤ n') (s : Fin n → EReal) (s' : Fin n' → EReal) (p : EReal)
    (hs : ∀ i : Fin n, s' (i.castLE hn) = s i) (hp : ∀ i : Fin n', n ≤ i.val → s' i = p)
    (hk : k ≤ n) (hlow : ∀ i : Fin n, i.val < k → p ≤ s i) (j : Fin n) (hr : rankOf s j < k) (i : Fin n') :
    rankOf s' i = rankOf s j ↔ i = j.castLE hn := by
  classical
  have hj : p ≤ s j := by
    by_contra hlt
    rw [not_le] at hlt
    have : k ≤ rankOf s j := by
      unfold rankOf
      calc k = ((univ : Finset (Fin k)).map (Fin.castLEEmb hk)).card := by simp
        _ ≤ _ := card_le_card fun a ha => by
          simp only [mem_map, mem_univ, true_and] at ha
          obtain ⟨b, rfl⟩ := ha
          simp only [mem_filter, mem_univ, true_and]
          exact .inl (hlt.trans_le (hlow _ b.2))
    omega
  have e : rankOf s' (j.castLE hn) = rankOf s j := by
    unfold rankOf
    rw [← card_map (Fin.castLEEmb hn)]
    congr 1
    ext a
    simp only [mem_filter, mem_univ, true_and, mem_map]
    constructor
    · intro h
      by_cases ha : a.val < n
      · refine ⟨⟨a.val, ha⟩, ?_, rfl⟩
        have ea : a = (⟨a.val, ha⟩ : Fin n).castLE hn := rfl
        rw [ea] at h
        rcases h with h | ⟨h, l⟩
        · rw [hs, hs] at h; exact .inl h
        · rw [hs, hs] at h; exact .inr ⟨h, l⟩
      · have hpa := hp a (not_lt.1 ha)
        rcases h with h | ⟨_, l⟩
        · rw [hs, hpa] at h; exact absurd h (not_lt.2 hj)
        · exact absurd (show a.val < j.val from l) (by have := j.2; omega)
    · rintro ⟨b, h, rfl⟩
      show Before s' (b.castLE hn) (j.castLE hn)
      rcases h with h | ⟨h, l⟩
      · left; rw [hs, hs]; exact h
      · right; rw [hs, hs]; exact ⟨h, l⟩
  constructor
  · intro h; exact rankOf_injective s' (h.trans e.symm)
  · rintro rfl; exact e

end Cert.Rank
-- ==== Proof.Picks.lean ====
module

public import proofs.«01_k».proof.Proof.Chunks
public import proofs.«01_k».proof.Proof.Order
public import Idealize.ShloMosaic.Lib.MatmulPlain
public import Idealize.ShloMosaic.Lib.ValueIdx
public import Idealize.ShloMosaic.Lib.ValueLayout
public import Idealize.ShloMosaic.Lib.IdealHost
public import Idealize.ShloMosaic.PureOps.IdealRules

/-! The update body's ranks and selection over exact reals: the rank of an entry is the number of entries before it, and
row `r` of the selection is one at the entry of rank `r` and zero elsewhere. -/

@[expose] public section

set_option maxRecDepth 16384

noncomputable section

namespace Cert.KernelIdeal.Hand

open Idealize.ShloMosaic Idealize.SL.Sem Idealize.ShloMosaic.ValueIdx
open Cert.KernelIdeal.Gen Cert.Rank

/-- A flag made a float is one or zero. -/
theorem flag_apply {s : Shape} (x : IVec s 1) (i : s.Idx) :
    (sitofp .f32 (extui 32 x natLt_1_32) : FVec Ideal s .f32) i = if x i = 1#1 then (1 : EReal) else 0 := by
  rw [sitofp_apply, extui_apply]
  have h : x i = 0#1 ∨ x i = 1#1 := by
    rcases Nat.lt_or_ge (x i).toNat 1 with h | h
    · exact .inl (BitVec.eq_of_toNat_eq (by simpa using h))
    · exact .inr (BitVec.eq_of_toNat_eq (by have := (x i).isLt; simp at this ⊢; omega))
  rcases h with h | h
  · rw [h, if_neg (by decide)]
    show ((((0#1).setWidth 32).toInt : ℝ) : EReal) = 0
    rw [show ((0#1).setWidth 32).toInt = 0 by decide]; simp
  · rw [h, if_pos rfl]
    show ((((1#1).setWidth 32).toInt : ℝ) : EReal) = 1
    rw [show ((1#1).setWidth 32).toInt = 1 by decide]; simp

/-- Small numbers are told apart by their words. -/
theorem ofNat_inj {a b : ℕ} (ha : a < 2 ^ 31) (hb : b < 2 ^ 31) : BitVec.ofNat 32 a = BitVec.ofNat 32 b ↔ a = b := by
  rw [← BitVec.toNat_inj, BitVec.toNat_ofNat, BitVec.toNat_ofNat, Nat.mod_eq_of_lt (by omega), Nat.mod_eq_of_lt (by omega)]

theorem ofNat_slt {a b : ℕ} (ha : a < 2 ^ 31) (hb : b < 2 ^ 31) : (BitVec.ofNat 32 a).slt (BitVec.ofNat 32 b) = true ↔ a < b := by
  rw [BitVec.slt_iff_toInt_lt, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  omega

theorem chunkRows_apply (c : ℕ) (r : Fin 128) (j : Fin 1152) :
    chunkRows (BitVec.ofNat 32 c) (ix2 r j) = BitVec.ofNat 32 (c + r.val) := by
  show IntOp.addi (iota .tc S128x1152 32 [0] iota_S128x1152_d0_w32 (ix2 r j)) (BitVec.ofNat 32 c) = _
  rw [iota_single_apply]
  show BitVec.ofNat 32 r.val + BitVec.ofNat 32 c = _
  rw [← BitVec.ofNat_add, Nat.add_comm]

theorem colNo_apply (r : Fin 128) (j : Fin 1152) : colNo (ix2 r j) = BitVec.ofNat 32 j.val := by
  show iota .tc S128x1152 32 [1] iota_S128x1152_d1_w32 (ix2 r j) = _
  rw [iota_single_apply]

/-- The entries of a score row. -/
def ent (s : FVec Ideal S1x1152 .f32) (j : Fin 1152) : EReal := s (ix2 0 j)

theorem colScore_apply (s : FVec Ideal S1x1152 .f32) (r : Fin 128) (j : Fin 1152) : colScore s (ix2 r j) = ent s j := by
  unfold colScore ent
  rw [shapeCast_self]
  exact broadcastTo_apply s _ _ (ix2 0 j) (fun a => by fin_cases a <;> rfl)

theorem rowScore_apply (c : ℕ) (hc : c ≤ 1024) (s : FVec Ideal S1x1152 .f32) (r : Fin 128) (j : Fin 1152) :
    rowScore (BitVec.ofNat 32 c) s (ix2 r j) = ent s ⟨c + r.val, by omega⟩ := by
  unfold rowScore
  rw [shapeCast_self]
  refine (broadcastTo_apply _ broadcasts_S128x1_S128x1152 (ix2 r j) (ix2 r 0) (fun a => by fin_cases a <;> rfl)).trans ?_
  refine (Ideal.matmul_transposedRhs_apply (M := 128) (K := 1152) (N := 1) (some .fp32) _ s _ r 0).trans ?_
  rw [constant_apply]
  refine (congrArg (· + _) (IdealRules.sign_bit.ideal_zero .f32)).trans ?_
  rw [zero_add]
  rw [Finset.sum_eq_single (⟨c + r.val, by omega⟩ : Fin 1152)]
  · rw [flag_apply, if_pos, one_mul]; · rfl
    exact IntOp.cmpi_eq.2 (by rw [chunkRows_apply, colNo_apply])
  · intro k _ hk
    rw [flag_apply, if_neg, zero_mul]
    intro h
    have h := IntOp.cmpi_eq.1 h
    rw [chunkRows_apply, colNo_apply, ofNat_inj (by omega) (by omega)] at h
    exact hk (Fin.ext h.symm)
  · exact fun h => absurd (Finset.mem_univ _) h

theorem ofBool_one (p : Prop) [Decidable p] : BitVec.ofBool (decide p) = 1#1 ↔ p := by
  by_cases h : p <;> simp [h]

theorem before_flags (c : ℕ) (hc : c ≤ 1024) (s : FVec Ideal S1x1152 .f32) (r : Fin 128) (j : Fin 1152) :
    (cmpf .ogt (rowScore (BitVec.ofNat 32 c) s) (colScore s)) (ix2 r j) = 1#1 ↔ ent s j < ent s ⟨c + r.val, by omega⟩ := by
  rw [cmpf_apply, rowScore_apply c hc, colScore_apply]
  exact ofBool_one _

theorem tie_flags (c : ℕ) (hc : c ≤ 1024) (s : FVec Ideal S1x1152 .f32) (r : Fin 128) (j : Fin 1152) :
    (andi (cmpf .oeq (rowScore (BitVec.ofNat 32 c) s) (colScore s)) (cmpi .slt (chunkRows (BitVec.ofNat 32 c)) colNo)) (ix2 r j) = 1#1
      ↔ ent s ⟨c + r.val, by omega⟩ = ent s j ∧ (⟨c + r.val, by omega⟩ : Fin 1152) < j := by
  refine IntOp.andi_eq_one.trans (and_congr ?_ ?_)
  · rw [cmpf_apply, rowScore_apply c hc, colScore_apply]
    exact ofBool_one _
  · have hj := j.isLt
    have hr := r.isLt
    show IntOp.cmpi .slt (chunkRows (BitVec.ofNat 32 c) (ix2 r j)) (colNo (ix2 r j)) = 1#1 ↔ _
    rw [chunkRows_apply, colNo_apply]
    refine IntOp.cmpi_slt.trans ?_
    rw [← BitVec.slt_iff_toInt_lt, ofNat_slt (by omega) (by omega)]
    exact Iff.rfl

open Classical in
/-- One chunk's part of a rank. -/
theorem chunk_apply (c : ℕ) (hc : c ≤ 1024) (s : FVec Ideal S1x1152 .f32) (j : Fin 1152) :
    chunk (BitVec.ofNat 32 c) s (ix2 0 j) = ∑ r : Fin 128, if Before (ent s) ⟨c + r.val, by omega⟩ j then (1 : EReal) else 0 := by
  unfold chunk
  refine (shapeCast_a_1a_apply (a := 1152) _ _ 0 j).trans ?_
  refine (Ideal.multiReduction_add_single _ _ _ _ _ _).trans ?_
  refine Finset.sum_congr rfl fun (r : Fin 128) _ => ?_
  have hl : reduces_S128x1152_S1152.lift (ValueIdx.ix1 j) r = (ix2 r j : S128x1152.Idx) := by
    funext a; apply Fin.ext; fin_cases a <;> rfl
  refine (congrArg _ hl).trans ?_
  rw [addf_apply, flag_apply, flag_apply]
  rw [if_congr (before_flags c hc s r j) rfl rfl, if_congr (tie_flags c hc s r j) rfl rfl]
  by_cases g : ent s j < ent s ⟨c + r.val, by omega⟩
  · rw [if_pos g, if_neg (fun h => g.ne h.1.symm), if_pos (show Before (ent s) _ j from .inl g), add_zero]
  · rw [if_neg g, zero_add]
    exact if_congr ⟨fun h => .inr h, fun h => h.resolve_left g⟩ rfl rfl

/-- A sum over 1152 entries, by chunks of 128. -/
theorem sum_chunks (f : Fin 1152 → EReal) : ∑ i, f i =
    ((((((((∑ r : Fin 128, f ⟨0 + r.val, by omega⟩) + ∑ r : Fin 128, f ⟨128 + r.val, by omega⟩) + ∑ r : Fin 128, f ⟨256 + r.val, by omega⟩)
      + ∑ r : Fin 128, f ⟨384 + r.val, by omega⟩) + ∑ r : Fin 128, f ⟨512 + r.val, by omega⟩) + ∑ r : Fin 128, f ⟨640 + r.val, by omega⟩)
      + ∑ r : Fin 128, f ⟨768 + r.val, by omega⟩) + ∑ r : Fin 128, f ⟨896 + r.val, by omega⟩) + ∑ r : Fin 128, f ⟨1024 + r.val, by omega⟩ := by
  let g : ℕ → EReal := fun n => if h : n < 1152 then f ⟨n, h⟩ else 0
  have hp (c : ℕ) (hc : c ≤ 1024) : ∑ r : Fin 128, f ⟨c + r.val, by omega⟩ = ∑ r ∈ Finset.range 128, g (c + r) := by
    rw [Finset.sum_range]
    exact Finset.sum_congr rfl fun r _ => by simp only [g]; rw [dif_pos (show c + r.val < 1152 by omega)]
  have hf : ∑ i, f i = ∑ n ∈ Finset.range 1152, g n := by
    rw [Finset.sum_range]
    exact Finset.sum_congr rfl fun r _ => by simp only [g]; rw [dif_pos r.isLt]
  rw [hf, hp 0 (by omega), hp 128 (by omega), hp 256 (by omega), hp 384 (by omega), hp 512 (by omega), hp 640 (by omega), hp 768 (by omega),
    hp 896 (by omega), hp 1024 (by omega)]
  simp only [Nat.zero_add]
  rw [← Finset.sum_range_add, ← Finset.sum_range_add, ← Finset.sum_range_add, ← Finset.sum_range_add, ← Finset.sum_range_add,
    ← Finset.sum_range_add, ← Finset.sum_range_add, ← Finset.sum_range_add]

/-- The rank the body counts is the number of entries before. -/
theorem ranks_apply (s : FVec Ideal S1x1152 .f32) (j : Fin 1152) : ranks s (ix2 0 j) = ((rankOf (ent s) j : ℕ) : EReal) := by
  classical
  unfold ranks
  simp only [addf_apply]
  rw [chunk_apply 0 (by omega), chunk_apply 128 (by omega), chunk_apply 256 (by omega), chunk_apply 384 (by omega), chunk_apply 512 (by omega),
    chunk_apply 640 (by omega), chunk_apply 768 (by omega), chunk_apply 896 (by omega), chunk_apply 1024 (by omega)]
  rw [show (broadcast S1x1152 (Scalar.ofBits (F := Ideal) .f32 0x00000000#32) : FVec Ideal S1x1152 .f32) (ix2 0 j) = (0 : EReal) from IdealRules.sign_bit.ideal_zero .f32, zero_add]
  refine (sum_chunks fun i => if Before (ent s) i j then (1 : EReal) else 0).symm.trans ?_
  rw [Finset.sum_boole]
  unfold rankOf
  congr

theorem rankOf_lt_card (s : Fin 1152 → EReal) (j : Fin 1152) : rankOf s j ≤ 1152 := by
  classical
  unfold rankOf
  exact (Finset.card_le_univ _).trans (by simp)

/-- Row `r` of the selection is one at the entry of rank `r`. -/
theorem pick_apply (s : FVec Ideal S1x1152 .f32) (r : Fin 64) (j : Fin 1152) :
    pick s (ix2 r j) = if rankOf (ent s) j = r.val then (1 : EReal) else 0 := by
  unfold pick
  rw [flag_apply]
  refine if_congr ?_ rfl rfl
  refine IntOp.cmpi_eq.trans ?_
  rw [iota_single_apply, shapeCast_self]
  rw [broadcastTo_apply _ broadcasts_S1x1152_S64x1152 (ix2 r j) (ix2 0 j) (fun a => by fin_cases a <;> rfl)]
  show Ideal.fptosi 32 (ranks s (ix2 0 j)) = BitVec.ofNat 32 r.val ↔ _
  rw [ranks_apply]
  have hb := rankOf_lt_card (ent s) j
  have hr := r.isLt
  rw [← ofNat_inj (a := rankOf (ent s) j) (by omega) (by omega)]
  have e : Ideal.fptosi 32 ((rankOf (ent s) j : ℕ) : EReal) = BitVec.ofNat 32 (rankOf (ent s) j) := by
    generalize rankOf (ent s) j = n at hb
    rw [← EReal.coe_natCast]
    unfold Ideal.fptosi
    rw [Ideal.toIntClamped_coe, if_pos (Nat.cast_nonneg n), Int.floor_natCast, max_eq_right (by norm_num), min_eq_right (by norm_num; omega)]
    exact BitVec.ofInt_natCast 32 n
  rw [e]

end Cert.KernelIdeal.Hand

end
-- ==== Proof.Rows.lean ====
module

public import proofs.«01_k».proof.Proof.Picks

/-! The update body's two results over exact reals: row `r` of the new block holds the entry of rank `r` among the 64 kept
and the 1024 incoming ones, and the new mean is the mixture with the mean of that entry. -/

@[expose] public section

set_option maxRecDepth 16384

noncomputable section

namespace Cert.Rank

/-- The 64 kept entries followed by the 1024 incoming ones. -/
def joined {α : Type} (a : Fin 64 → α) (b : Fin 1024 → α) (k : Fin 1088) : α :=
  if h : k.val < 64 then a ⟨k.val, h⟩ else b ⟨k.val - 64, by omega⟩

end Cert.Rank

namespace Cert.KernelIdeal.Hand

open Idealize.ShloMosaic Idealize.SL.Sem Idealize.ShloMosaic.ValueIdx
open Cert.KernelIdeal.Gen Cert.Rank

/-- The padding's score. -/
def pad : EReal := Ideal.ofBits .f32 0xBF800000#32

section Pieces

variable {α : Type} {t s₁ s₂ s₃ : Shape}

/-- Three arrays laid end to end, read inside the first, the second, the third. -/
theorem piece3_fst (a : Fin t.rank) (x₁ : s₁.Idx → α) (x₂ : s₂.Idx → α) (x₃ : s₃.Idx → α) (h : Shape.Concatenates [s₁, s₂, s₃] t a)
    (j : t.Idx) (hr : s₁.rank = t.rank) (i : s₁.Idx) (hi : ∀ b : Fin s₁.rank, b.cast hr ≠ a → (i b).val = (j (b.cast hr)).val)
    (ha : (i (a.cast hr.symm)).val = (j a).val) : concatenate t a [⟨s₁, x₁⟩, ⟨s₂, x₂⟩, ⟨s₃, x₃⟩] h j = x₁ i :=
  concatenate_apply_piece a [⟨s₁, x₁⟩, ⟨s₂, x₂⟩, ⟨s₃, x₃⟩] h j 0 (by simp) s₁ x₁ rfl hr 0 rfl i hi ((Nat.zero_add _).trans ha)

theorem piece3_snd (a : Fin t.rank) (x₁ : s₁.Idx → α) (x₂ : s₂.Idx → α) (x₃ : s₃.Idx → α) (h : Shape.Concatenates [s₁, s₂, s₃] t a)
    (j : t.Idx) (hr : s₂.rank = t.rank) (n : ℕ)
    (hn : (if h : s₁.rank = t.rank then s₁.size (a.cast h.symm) else 0) = n) (i : s₂.Idx)
    (hi : ∀ b : Fin s₂.rank, b.cast hr ≠ a → (i b).val = (j (b.cast hr)).val)
    (ha : n + (i (a.cast hr.symm)).val = (j a).val) : concatenate t a [⟨s₁, x₁⟩, ⟨s₂, x₂⟩, ⟨s₃, x₃⟩] h j = x₂ i :=
  concatenate_apply_piece a [⟨s₁, x₁⟩, ⟨s₂, x₂⟩, ⟨s₃, x₃⟩] h j 1 (by simp) s₂ x₂ rfl hr n (by simpa using hn) i hi ha

theorem piece3_trd (a : Fin t.rank) (x₁ : s₁.Idx → α) (x₂ : s₂.Idx → α) (x₃ : s₃.Idx → α) (h : Shape.Concatenates [s₁, s₂, s₃] t a)
    (j : t.Idx) (hr : s₃.rank = t.rank) (n : ℕ)
    (hn : (if h : s₁.rank = t.rank then s₁.size (a.cast h.symm) else 0) + (if h : s₂.rank = t.rank then s₂.size (a.cast h.symm) else 0) = n)
    (i : s₃.Idx) (hi : ∀ b : Fin s₃.rank, b.cast hr ≠ a → (i b).val = (j (b.cast hr)).val)
    (ha : n + (i (a.cast hr.symm)).val = (j a).val) : concatenate t a [⟨s₁, x₁⟩, ⟨s₂, x₂⟩, ⟨s₃, x₃⟩] h j = x₃ i :=
  concatenate_apply_piece a [⟨s₁, x₁⟩, ⟨s₂, x₂⟩, ⟨s₃, x₃⟩] h j 2 (by simp) s₃ x₃ rfl hr n (by simpa using hn) i hi ha

end Pieces

/-- The body's scores: the kept ones, the incoming ones, the padding. -/
theorem scores_apply (v1 : Vec Ideal S1x1x64 .f32) (v3 : Vec Ideal S1x1x1024 .f32) (k : Fin 1088) :
    ent (k1_pay2 v1 v3) (k.castLE (by omega)) = joined (fun j => v1 (ix3 0 0 j)) (fun j => v3 (ix3 0 0 j)) k := by
  unfold ent k1_pay2 joined
  have hk := k.isLt
  by_cases h : k.val < 64
  · rw [dif_pos h]
    refine (piece3_fst (t := S1x1152) (s₁ := S1x64) (s₂ := S1x1024) (s₃ := S1x64) 1 _ _ _ _ (ix2 0 ⟨k.val, by omega⟩) rfl (ix2 0 ⟨k.val, h⟩)
      (fun b hb => by fin_cases b <;> first | rfl | exact absurd rfl hb) rfl).trans ?_
    exact shapeCast_1ab_ab_apply (a := 1) (b := 64) v1 _ 0 ⟨k.val, h⟩
  · rw [dif_neg h]
    refine (piece3_snd (t := S1x1152) (s₁ := S1x64) (s₂ := S1x1024) (s₃ := S1x64) 1 _ _ _ _ (ix2 0 ⟨k.val, by omega⟩) rfl 64 rfl (ix2 0 ⟨k.val - 64, by omega⟩)
      (fun b hb => by fin_cases b <;> first | rfl | exact absurd rfl hb) (by show 64 + (k.val - 64) = k.val; omega)).trans ?_
    exact shapeCast_1ab_ab_apply (a := 1) (b := 1024) v3 _ 0 ⟨k.val - 64, by omega⟩

theorem scores_pad (v1 : Vec Ideal S1x1x64 .f32) (v3 : Vec Ideal S1x1x1024 .f32) (i : Fin 1152) (h : 1088 ≤ i.val) :
    ent (k1_pay2 v1 v3) i = pad := by
  unfold ent k1_pay2
  have hi := i.isLt
  exact piece3_trd (t := S1x1152) (s₁ := S1x64) (s₂ := S1x1024) (s₃ := S1x64) 1 _ _ _ _ (ix2 0 i) rfl 1088 rfl (ix2 0 ⟨i.val - 1088, by omega⟩)
      (fun b hb => by fin_cases b <;> first | rfl | exact absurd rfl hb) (by show 1088 + (i.val - 1088) = i.val; omega)

/-- The selection, row by row: row `r` marks the joined entry `k` of rank `r`. -/
theorem pick_row (v1 : Vec Ideal S1x1x64 .f32) (v3 : Vec Ideal S1x1x1024 .f32) (hq : ∀ j, pad ≤ v1 (ix3 0 0 j)) (r : Fin 64) (k : Fin 1088)
    (hr : rankOf (joined (fun j => v1 (ix3 0 0 j)) (fun j => v3 (ix3 0 0 j))) k = r.val) (i : Fin 1152) :
    pick (k1_pay2 v1 v3) (ix2 r i) = if i = k.castLE (by omega) then (1 : EReal) else 0 := by
  rw [pick_apply]
  refine if_congr ?_ rfl rfl
  rw [← hr]
  refine rankOf_padded (k := 64) (by omega) _ _ pad (scores_apply v1 v3) (scores_pad v1 v3) (by omega) (fun j hj => ?_) k (hr ▸ r.isLt) i
  unfold joined
  rw [dif_pos hj]
  exact hq _

/-- The new scores. -/
theorem newSc_apply (v1 : Vec Ideal S1x1x64 .f32) (v3 : Vec Ideal S1x1x1024 .f32) (hq : ∀ j, pad ≤ v1 (ix3 0 0 j)) (r : Fin 64) (k : Fin 1088)
    (hr : rankOf (joined (fun j => v1 (ix3 0 0 j)) (fun j => v3 (ix3 0 0 j))) k = r.val) :
    newSc v1 v3 (ix3 0 0 r) = joined (fun j => v1 (ix3 0 0 j)) (fun j => v3 (ix3 0 0 j)) k := by
  unfold newSc k1_pay1 k1_pay15
  refine (shapeCast_ab_1ab_apply (a := 1) (b := 64) _ _ 0 0 r).trans ?_
  refine (Ideal.matmul_transposedRhs_apply (M := 1) (K := 1152) (N := 64) (some .fp32) _ _ _ 0 r).trans ?_
  rw [constant_apply]
  refine (congrArg (· + _) (IdealRules.sign_bit.ideal_zero .f32)).trans ?_
  rw [zero_add, pick_eq]
  simp only [pick_row v1 v3 hq r k hr]
  rw [Finset.sum_eq_single (k.castLE (by omega : 1088 ≤ 1152))]
  · rw [if_pos rfl, mul_one]; exact scores_apply v1 v3 k
  · intro i _ hi; rw [if_neg hi, mul_zero]
  · exact fun h => absurd (Finset.mem_univ _) h

/-- The new means. -/
theorem newMu_apply (x0 : Vec Ideal S1x64x128 .f32) (v1 : Vec Ideal S1x1x64 .f32) (v3 : Vec Ideal S1x1x1024 .f32) (x3 : Vec Ideal S1024x128 .f32)
    (q : Elt Ideal .f32) (hq : ∀ j, pad ≤ v1 (ix3 0 0 j)) (r : Fin 64) (k : Fin 1088)
    (hr : rankOf (joined (fun j => v1 (ix3 0 0 j)) (fun j => v3 (ix3 0 0 j))) k = r.val) (d : Fin 128) :
    newMu x0 v1 v3 x3 q (ix3 0 r d)
      = ((Ideal.ofBits .f32 0x3F800000#32 - q) * x0 (ix3 0 r d) + q * joined (fun j => x0 (ix3 0 j d)) (fun j => x3 (ix2 j d)) k : EReal) := by
  unfold newMu k1_pay16
  refine (shapeCast_ab_1ab_apply (a := 64) (b := 128) _ _ 0 r d).trans ?_
  rw [addf_apply, mulf_apply, mulf_apply]
  refine congrArg₂ (· + ·) (congrArg₂ (· * ·) rfl (shapeCast_1ab_ab_apply (a := 64) (b := 128) x0 _ r d)) (congrArg₂ (· * ·) rfl ?_)
  refine (Ideal.matmul_plain_apply (M := 64) (K := 1152) (N := 128) (some .fp32) _ _ _ r d).trans ?_
  rw [constant_apply]
  refine (congrArg (· + _) (IdealRules.sign_bit.ideal_zero .f32)).trans ?_
  rw [zero_add, pick_eq]
  simp only [pick_row v1 v3 hq r k hr]
  rw [Finset.sum_eq_single (k.castLE (by omega : 1088 ≤ 1152))]
  · rw [if_pos rfl, one_mul]
    unfold joined
    have hk := k.isLt
    by_cases h : k.val < 64
    · rw [dif_pos h]
      refine (piece3_fst (t := S1152x128) (s₁ := S64x128) (s₂ := S1024x128) (s₃ := S64x128) 0 _ _ _ _ (ix2 ⟨k.val, by omega⟩ d) rfl (ix2 ⟨k.val, h⟩ d)
        (fun b hb => by fin_cases b <;> first | rfl | exact absurd rfl hb) rfl).trans ?_
      exact shapeCast_1ab_ab_apply (a := 64) (b := 128) x0 _ ⟨k.val, h⟩ d
    · rw [dif_neg h]
      exact piece3_snd (t := S1152x128) (s₁ := S64x128) (s₂ := S1024x128) (s₃ := S64x128) 0 _ _ _ _ (ix2 ⟨k.val, by omega⟩ d) rfl 64 rfl (ix2 ⟨k.val - 64, by omega⟩ d)
        (fun b hb => by fin_cases b <;> first | rfl | exact absurd rfl hb) (by show 64 + (k.val - 64) = k.val; omega)
  · intro i _ hi; rw [if_neg hi, zero_mul]
  · exact fun h => absurd (Finset.mem_univ _) h

end Cert.KernelIdeal.Hand

end
-- ==== Proof.Arrays.lean ====
module

public import proofs.«01_k».proof.Proof.Tables
public import proofs.«01_k».proof.Proof.Rows
public import Idealize.ShloMosaic.Lib.Pipeline.ValueKit
public import Idealize.ShloMosaic.Lib.Pipeline.Covers

/-! The arrays the two calls leave, in closed form: the gather call's results are the queue rows the index names; the
update call rewrites those rows of the queue and leaves the others. -/

@[expose] public section

set_option maxRecDepth 16384

noncomputable section

namespace Cert.KernelIdeal.Hand

open Idealize.ShloMosaic Idealize.ShloMosaic.TcCoe Idealize.SL Idealize.SL.Sem
open Cert.KernelIdeal.Gen

variable {F : FTy → Type} [FloatOps F]

/-- The index maps that follow the grid. -/
theorem grid_word (n : Fin 256) : (BitVec.ofNat 32 n.val).toNat = n.val := by
  rw [BitVec.toNat_ofNat]; have := n.isLt; exact Nat.mod_eq_of_lt (by omega)
theorem out02 (i : grid0.Coords) : cc0_transform_2 i = ![(i 0).val, 0, 0] := by
  unfold cc0_transform_2
  exact congrArg (fun n => ![n, 0, 0]) (grid_word (i 0))
theorem out03 (i : grid0.Coords) : cc0_transform_3 i = ![(i 0).val, 0, 0] := by
  unfold cc0_transform_3
  exact congrArg (fun n => ![n, 0, 0]) (grid_word (i 0))
theorem in10 (i : grid1.Coords) : cc1_transform_2 i = ![(i 0).val, 0, 0] := by
  unfold cc1_transform_2
  exact congrArg (fun n => ![n, 0, 0]) (grid_word (i 0))
theorem in11 (i : grid1.Coords) : cc1_transform_3 i = ![(i 0).val, 0, 0] := by
  unfold cc1_transform_3
  exact congrArg (fun n => ![n, 0, 0]) (grid_word (i 0))

section Call0

variable (a : (pcfg0 (F := F)).Adm)
variable (V : (c : Dev nD) → (b : Ref sig .tc) → Buf (Elt F) ((c : Thread nD τ).loc b))

theorem index00 (t : Fin (cfg0 a).N) : ((cfg0 a).win 0).index t = ![(word0 a.1 (grid0.coords t)).toNat, 0, 0] := map00 a.1 (grid0.coords t)
theorem index01 (t : Fin (cfg0 a).N) : ((cfg0 a).win 1).index t = ![(word0 a.1 (grid0.coords t)).toNat, 0, 0] := map01 a.1 (grid0.coords t)
theorem index02 (t : Fin (cfg0 a).N) : ((cfg0 a).win 2).index t = ![((grid0.coords t) 0).val, 0, 0] := out02 (grid0.coords t)
theorem index03 (t : Fin (cfg0 a).N) : ((cfg0 a).win 3).index t = ![((grid0.coords t) 0).val, 0, 0] := out03 (grid0.coords t)

/-- The row of the queue a point names. -/
theorem word0_lt (i : grid0.Coords) : (word0 a.1 i).toNat < 10000 := by
  have h := hinb0 a.1 a.2 0 i 0
  have e : ix0 a.1 0 i 0 = (word0 a.1 i).toNat := congrFun (map00 a.1 i) 0
  rw [e] at h
  have h' : ((word0 a.1 i).toNat + 1) * 1 ≤ 10000 := h
  omega
def qrow0 (n : Fin 256) : Fin 10000 :=
  ⟨(a.1 0 (ValueIdx.ix1 n : S256.Idx)).toNat, word0_lt a (fun k => match k with | ⟨0, _⟩ => n)⟩

/-- The coordinate of a point. -/
def pt0 (t : Fin (cfg0 a).N) : Fin 256 := grid0.coords t 0

theorem pt0_surjective (n : Fin 256) : ∃ t, pt0 a t = n :=
  (Pipeline.Grid.coords_surjective grid0 (fun k => match k with | ⟨0, _⟩ => n)).imp fun _ h => congrFun h 0

theorem unit_zero (k : Fin 1) : k.val = 0 := by omega

theorem emb00 (t : Fin (cfg0 a).N) (y : S1x64x128.Idx) :
    (((cfg0 a).win 0).rect t).emb y = (ValueIdx.ix3 (qrow0 a (pt0 a t)) (y 1) (y 2) : S10000x64x128.Idx) := by
  refine funext fun k => Fin.ext ((Pipeline.Window.rect_emb_val ((cfg0 a).win 0) t y k).trans ?_)
  rw [index00]
  match k with
  | ⟨0, _⟩ => show (word0 a.1 (grid0.coords t)).toNat * 1 + (y 0).val = _; rw [unit_zero (y 0), Nat.mul_one]; rfl
  | ⟨1, _⟩ => exact Nat.zero_add _
  | ⟨2, _⟩ => exact Nat.zero_add _
theorem emb01 (t : Fin (cfg0 a).N) (y : S1x1x64.Idx) :
    (((cfg0 a).win 1).rect t).emb y = (ValueIdx.ix3 (qrow0 a (pt0 a t)) (y 1) (y 2) : S10000x1x64.Idx) := by
  refine funext fun k => Fin.ext ((Pipeline.Window.rect_emb_val ((cfg0 a).win 1) t y k).trans ?_)
  rw [index01]
  match k with
  | ⟨0, _⟩ => show (word0 a.1 (grid0.coords t)).toNat * 1 + (y 0).val = _; rw [unit_zero (y 0), Nat.mul_one]; rfl
  | ⟨1, _⟩ => exact Nat.zero_add _
  | ⟨2, _⟩ => exact Nat.zero_add _
theorem emb02 (t : Fin (cfg0 a).N) (y : S1x64x128.Idx) :
    (((cfg0 a).win 2).rect t).emb y = (ValueIdx.ix3 (pt0 a t) (y 1) (y 2) : S256x64x128.Idx) := by
  refine funext fun k => Fin.ext ((Pipeline.Window.rect_emb_val ((cfg0 a).win 2) t y k).trans ?_)
  rw [index02]
  match k with
  | ⟨0, _⟩ => show (grid0.coords t 0).val * 1 + (y 0).val = _; rw [unit_zero (y 0), Nat.mul_one]; rfl
  | ⟨1, _⟩ => exact Nat.zero_add _
  | ⟨2, _⟩ => exact Nat.zero_add _
theorem emb03 (t : Fin (cfg0 a).N) (y : S1x1x64.Idx) :
    (((cfg0 a).win 3).rect t).emb y = (ValueIdx.ix3 (pt0 a t) (y 1) (y 2) : S256x1x64.Idx) := by
  refine funext fun k => Fin.ext ((Pipeline.Window.rect_emb_val ((cfg0 a).win 3) t y k).trans ?_)
  rw [index03]
  match k with
  | ⟨0, _⟩ => show (grid0.coords t 0).val * 1 + (y 0).val = _; rw [unit_zero (y 0), Nat.mul_one]; rfl
  | ⟨1, _⟩ => exact Nat.zero_add _
  | ⟨2, _⟩ => exact Nat.zero_add _

theorem blk00 (c : Dev nD) (t : Fin (cfg0 a).N) (y : S1x64x128.Idx) :
    blk0 a V c 0 t y = V c main_arg0 (ValueIdx.ix3 (qrow0 a (pt0 a t)) (y 1) (y 2) : S10000x64x128.Idx) :=
  congrArg (V c main_arg0) (emb00 a t y)
theorem blk01 (c : Dev nD) (t : Fin (cfg0 a).N) (y : S1x1x64.Idx) :
    blk0 a V c 1 t y = V c main_v0 (ValueIdx.ix3 (qrow0 a (pt0 a t)) (y 1) (y 2) : S10000x1x64.Idx) :=
  congrArg (V c main_v0) (emb01 a t y)

theorem zero3 : (![0, 0, 0] : Fin 3 → ℕ) = fun _ => 0 := by decide
theorem zero2 : (![0, 0] : Fin 2 → ℕ) = fun _ => 0 := by decide

/-- The gather body copies its blocks. -/
theorem gMu_eq (x : Vec F S1x64x128 .f32) : gMu x = x := by
  unfold gMu
  rw [View.canon_unit_zero zero3, View.ld_unit_zero zero3]
theorem gSc_eq (x : Vec F S1x1x64 .f32) : gSc x = x := by
  unfold gSc k0_pay1
  rw [View.canon_unit_zero zero3, View.ld_unit_zero zero3]
  exact shapeCast_self _ _

/-- From any point, the output is written back there or at a later point of the same row. -/
theorem flush02 (n : Fin 256) : ∃ t, ((cfg0 a).win 2).flush t = true ∧ pt0 a t = n := by
  obtain ⟨t₀, h₀⟩ := pt0_surjective a n
  obtain ⟨t, -, hf, hix⟩ := ((cfg0 a).win 2).exists_flush_same_index rfl t₀
  rw [index02, index02] at hix
  exact ⟨t, hf, (Fin.ext (congrFun hix 0)).trans h₀⟩
theorem flush03 (n : Fin 256) : ∃ t, ((cfg0 a).win 3).flush t = true ∧ pt0 a t = n := by
  obtain ⟨t₀, h₀⟩ := pt0_surjective a n
  obtain ⟨t, -, hf, hix⟩ := ((cfg0 a).win 3).exists_flush_same_index rfl t₀
  rw [index03, index03] at hix
  exact ⟨t, hf, (Fin.ext (congrFun hix 0)).trans h₀⟩

/-- An element of row `n` is in the block of every point of row `n`. -/
theorem mem02 (t : Fin (cfg0 a).N) (i : S256x64x128.Idx) (h : pt0 a t = i 0) : i ∈ (((cfg0 a).win 2).blk t).view.set := by
  have e : (((cfg0 a).win 2).blk t).view.emb (ValueIdx.ix3 0 (i 1) (i 2) : S1x64x128.Idx) = i :=
    (emb02 a t _).trans (h ▸ (ValueIdx.eq_ix3 i).symm)
  exact e ▸ View.emb_mem_set _ _
theorem mem03 (t : Fin (cfg0 a).N) (i : S256x1x64.Idx) (h : pt0 a t = i 0) : i ∈ (((cfg0 a).win 3).blk t).view.set := by
  have e : (((cfg0 a).win 3).blk t).view.emb (ValueIdx.ix3 0 (i 1) (i 2) : S1x1x64.Idx) = i :=
    (emb03 a t _).trans (h ▸ (ValueIdx.eq_ix3 i).symm)
  exact e ▸ View.emb_mem_set _ _

theorem cover02 (i : S256x64x128.Idx) : ∃ t, ((cfg0 a).win 2).flush t = true ∧ i ∈ (((cfg0 a).win 2).blk t).view.set :=
  (flush02 a (i 0)).imp fun t h => ⟨h.1, mem02 a t i h.2⟩
theorem cover03 (i : S256x1x64.Idx) : ∃ t, ((cfg0 a).win 3).flush t = true ∧ i ∈ (((cfg0 a).win 3).blk t).view.set :=
  (flush03 a (i 0)).imp fun t h => ⟨h.1, mem03 a t i h.2⟩

/-- The gathered means and scores: the queue rows the table names. -/
def rowsMu (c : Dev nD) (i : S256x64x128.Idx) : Elt F .f32 := V c main_arg0 (ValueIdx.ix3 (qrow0 a (i 0)) (i 1) (i 2) : S10000x64x128.Idx)
def rowsSc (c : Dev nD) (i : S256x1x64.Idx) : Elt F .f32 := V c main_v0 (ValueIdx.ix3 (qrow0 a (i 0)) (i 1) (i 2) : S10000x1x64.Idx)

theorem flushed02 (c : Dev nD) (t : Fin (cfg0 a).N) :
    (data0 a V c).flushed 2 t = (((cfg0 a).win 2).blk t).view.read (Elt F) (rowsMu a V c) := by
  have e : (data0 a V c).after 2 t = blk0 a V c 0 t := (data0_after2 a V c t).trans (gMu_eq _)
  funext (y : S1x64x128.Idx)
  refine (Pipeline.Dat.flushed_apply _ _ _ _).trans ?_
  rw [e]
  refine (blk00 a V c t y).trans ?_
  exact (congrArg (rowsMu a V c) (emb02 a t y)).symm
theorem flushed03 (c : Dev nD) (t : Fin (cfg0 a).N) :
    (data0 a V c).flushed 3 t = (((cfg0 a).win 3).blk t).view.read (Elt F) (rowsSc a V c) :=
  (gSc_eq (blk0 a V c 1 t)).trans (funext fun (y : S1x1x64.Idx) => (blk01 a V c t y).trans (congrArg (rowsSc a V c) (emb03 a t y)).symm)

theorem gathered_mu (c : Dev nD) : (data0 a V c).arrAt 2 (cfg0 a).N = rowsMu a V c :=
  (data0 a V c).arrAt_eq_of_cover 2 (rowsMu a V c) (fun t _ => flushed02 a V c t) (cover02 a)
theorem gathered_sc (c : Dev nD) : (data0 a V c).arrAt 3 (cfg0 a).N = rowsSc a V c :=
  (data0 a V c).arrAt_eq_of_cover 3 (rowsSc a V c) (fun t _ => flushed03 a V c t) (cover03 a)

end Call0
end Cert.KernelIdeal.Hand
-- ==== Proof.Updates.lean ====
module

public import proofs.«01_k».proof.Proof.Arrays

/-! The update call's arrays, in closed form: the rows the table names are rewritten, each by the body's value of that row
of the queue; the other rows are as the call found them. A row named twice is rewritten twice to the same values. -/

@[expose] public section

set_option maxRecDepth 16384

noncomputable section

namespace Cert.KernelIdeal.Hand

open Idealize.ShloMosaic Idealize.ShloMosaic.TcCoe Idealize.SL Idealize.SL.Sem
open Cert.KernelIdeal.Gen

variable {F : FTy → Type} [FloatOps F]
variable (a : (pcfg1 (F := F)).Adm)
variable (V : (c : Dev nD) → (b : Ref sig .tc) → Buf (Elt F) ((c : Thread nD τ).loc b))

theorem whole13 (i : grid1.Coords) : cc1_transform_5 i = ![0, 0] := rfl
theorem whole14 (i : grid1.Coords) : cc1_transform_6 i = ![0] := rfl

theorem index10 (t : Fin (cfg1 a).N) : ((cfg1 a).win 0).index t = ![((grid1.coords t) 0).val, 0, 0] := in10 (grid1.coords t)
theorem index11 (t : Fin (cfg1 a).N) : ((cfg1 a).win 1).index t = ![((grid1.coords t) 0).val, 0, 0] := in11 (grid1.coords t)
theorem index12 (t : Fin (cfg1 a).N) : ((cfg1 a).win 2).index t = ![(word1 a.1 (grid1.coords t)).toNat, 0, 0] := map14 a.1 (grid1.coords t)
theorem index13 (t : Fin (cfg1 a).N) : ((cfg1 a).win 3).index t = ![0, 0] := whole13 (grid1.coords t)
theorem index14 (t : Fin (cfg1 a).N) : ((cfg1 a).win 4).index t = ![0] := whole14 (grid1.coords t)
theorem index15 (t : Fin (cfg1 a).N) : ((cfg1 a).win 5).index t = ![(word1 a.1 (grid1.coords t)).toNat, 0, 0] := map17 a.1 (grid1.coords t)
theorem index16 (t : Fin (cfg1 a).N) : ((cfg1 a).win 6).index t = ![(word1 a.1 (grid1.coords t)).toNat, 0, 0] := map18 a.1 (grid1.coords t)

/-- The row of the queue a point names. -/
theorem word1_lt (i : grid1.Coords) : (word1 a.1 i).toNat < 10000 := by
  have h := hinb1 a.1 a.2 2 i 0
  have e : ix1 a.1 2 i 0 = (word1 a.1 i).toNat := congrFun (map14 a.1 i) 0
  rw [e] at h
  have h' : ((word1 a.1 i).toNat + 1) * 1 ≤ 10000 := h
  omega
def qrow1 (n : Fin 256) : Fin 10000 :=
  ⟨(a.1 0 (ValueIdx.ix1 n : S256.Idx)).toNat, word1_lt a (fun k => match k with | ⟨0, _⟩ => n)⟩

/-- The coordinate of a point. -/
def pt1 (t : Fin (cfg1 a).N) : Fin 256 := grid1.coords t 0

theorem pt1_surjective (n : Fin 256) : ∃ t, pt1 a t = n :=
  (Pipeline.Grid.coords_surjective grid1 (fun k => match k with | ⟨0, _⟩ => n)).imp fun _ h => congrFun h 0

theorem emb10 (t : Fin (cfg1 a).N) (y : S1x64x128.Idx) :
    (((cfg1 a).win 0).rect t).emb y = (ValueIdx.ix3 (pt1 a t) (y 1) (y 2) : S256x64x128.Idx) := by
  refine funext fun k => Fin.ext ((Pipeline.Window.rect_emb_val ((cfg1 a).win 0) t y k).trans ?_)
  rw [index10]
  match k with
  | ⟨0, _⟩ => show (grid1.coords t 0).val * 1 + (y 0).val = _; rw [unit_zero (y 0), Nat.mul_one]; rfl
  | ⟨1, _⟩ => exact Nat.zero_add _
  | ⟨2, _⟩ => exact Nat.zero_add _
theorem emb11 (t : Fin (cfg1 a).N) (y : S1x1x64.Idx) :
    (((cfg1 a).win 1).rect t).emb y = (ValueIdx.ix3 (pt1 a t) (y 1) (y 2) : S256x1x64.Idx) := by
  refine funext fun k => Fin.ext ((Pipeline.Window.rect_emb_val ((cfg1 a).win 1) t y k).trans ?_)
  rw [index11]
  match k with
  | ⟨0, _⟩ => show (grid1.coords t 0).val * 1 + (y 0).val = _; rw [unit_zero (y 0), Nat.mul_one]; rfl
  | ⟨1, _⟩ => exact Nat.zero_add _
  | ⟨2, _⟩ => exact Nat.zero_add _
theorem emb12 (t : Fin (cfg1 a).N) (y : S1x1x1024.Idx) :
    (((cfg1 a).win 2).rect t).emb y = (ValueIdx.ix3 (qrow1 a (pt1 a t)) (y 1) (y 2) : S10000x1x1024.Idx) := by
  refine funext fun k => Fin.ext ((Pipeline.Window.rect_emb_val ((cfg1 a).win 2) t y k).trans ?_)
  rw [index12]
  match k with
  | ⟨0, _⟩ => show (word1 a.1 (grid1.coords t)).toNat * 1 + (y 0).val = _; rw [unit_zero (y 0), Nat.mul_one]; rfl
  | ⟨1, _⟩ => exact Nat.zero_add _
  | ⟨2, _⟩ => exact Nat.zero_add _
theorem emb15 (t : Fin (cfg1 a).N) (y : S1x64x128.Idx) :
    (((cfg1 a).win 5).rect t).emb y = (ValueIdx.ix3 (qrow1 a (pt1 a t)) (y 1) (y 2) : S10000x64x128.Idx) := by
  refine funext fun k => Fin.ext ((Pipeline.Window.rect_emb_val ((cfg1 a).win 5) t y k).trans ?_)
  rw [index15]
  match k with
  | ⟨0, _⟩ => show (word1 a.1 (grid1.coords t)).toNat * 1 + (y 0).val = _; rw [unit_zero (y 0), Nat.mul_one]; rfl
  | ⟨1, _⟩ => exact Nat.zero_add _
  | ⟨2, _⟩ => exact Nat.zero_add _
theorem emb16 (t : Fin (cfg1 a).N) (y : S1x1x64.Idx) :
    (((cfg1 a).win 6).rect t).emb y = (ValueIdx.ix3 (qrow1 a (pt1 a t)) (y 1) (y 2) : S10000x1x64.Idx) := by
  refine funext fun k => Fin.ext ((Pipeline.Window.rect_emb_val ((cfg1 a).win 6) t y k).trans ?_)
  rw [index16]
  match k with
  | ⟨0, _⟩ => show (word1 a.1 (grid1.coords t)).toNat * 1 + (y 0).val = _; rw [unit_zero (y 0), Nat.mul_one]; rfl
  | ⟨1, _⟩ => exact Nat.zero_add _
  | ⟨2, _⟩ => exact Nat.zero_add _
theorem emb13 (t : Fin (cfg1 a).N) (y : S1024x128.Idx) : (((cfg1 a).win 3).rect t).emb y = y := by
  refine funext fun k => Fin.ext ((Pipeline.Window.rect_emb_val ((cfg1 a).win 3) t y k).trans ?_)
  rw [index13]
  match k with
  | ⟨0, _⟩ => exact Nat.zero_add _
  | ⟨1, _⟩ => exact Nat.zero_add _
theorem emb14 (t : Fin (cfg1 a).N) (y : S1.Idx) : (((cfg1 a).win 4).rect t).emb y = y := by
  refine funext fun k => Fin.ext ((Pipeline.Window.rect_emb_val ((cfg1 a).win 4) t y k).trans ?_)
  rw [index14]
  match k with
  | ⟨0, _⟩ => exact Nat.zero_add _

theorem blk10 (c : Dev nD) (t : Fin (cfg1 a).N) (y : S1x64x128.Idx) :
    blk1 a V c 0 t y = V c main_v4_0 (ValueIdx.ix3 (pt1 a t) (y 1) (y 2) : S256x64x128.Idx) := congrArg (V c main_v4_0) (emb10 a t y)
theorem blk11 (c : Dev nD) (t : Fin (cfg1 a).N) (y : S1x1x64.Idx) :
    blk1 a V c 1 t y = V c main_v4_1 (ValueIdx.ix3 (pt1 a t) (y 1) (y 2) : S256x1x64.Idx) := congrArg (V c main_v4_1) (emb11 a t y)
theorem blk12 (c : Dev nD) (t : Fin (cfg1 a).N) (y : S1x1x1024.Idx) :
    blk1 a V c 2 t y = V c main_v2 (ValueIdx.ix3 (qrow1 a (pt1 a t)) (y 1) (y 2) : S10000x1x1024.Idx) := congrArg (V c main_v2) (emb12 a t y)
theorem blk13 (c : Dev nD) (t : Fin (cfg1 a).N) (y : S1024x128.Idx) : blk1 a V c 3 t y = V c main_arg2 y := congrArg (V c main_arg2) (emb13 a t y)
theorem blk14 (c : Dev nD) (t : Fin (cfg1 a).N) (y : S1.Idx) : blk1 a V c 4 t y = V c main_v3 y := congrArg (V c main_v3) (emb14 a t y)

/-- The update body on whole blocks. -/
theorem uMu_eq (x0 : Vec F S1x64x128 .f32) (x1 : Vec F S1x1x64 .f32) (x2 : Vec F S1x1x1024 .f32) (x3 : Vec F S1024x128 .f32) (x4 : Vec F S1 .f32) :
    uMu x0 x1 x2 x3 x4 = newMu x0 x1 x2 x3 (x4 (ValueIdx.ix1 0 : S1.Idx)) := by
  unfold uMu
  rw [View.canon_unit_zero zero3, View.ld_unit_zero zero3, View.ld_unit_zero zero3, View.ld_unit_zero zero3, View.ld_unit_zero zero2,
    View.ld_unit_zero (show (![0] : Fin 1 → ℕ) = fun _ => 0 by decide)]
  refine congrArg (fun i => newMu x0 x1 x2 x3 (x4 i)) (funext fun k => Fin.ext ?_)
  match k with
  | ⟨0, _⟩ => exact (unit_zero _).trans (unit_zero _).symm
theorem uSc_eq (x1 : Vec F S1x1x64 .f32) (x2 : Vec F S1x1x1024 .f32) : uSc x1 x2 = newSc x1 x2 := by
  unfold uSc
  rw [View.canon_unit_zero zero3, View.ld_unit_zero zero3, View.ld_unit_zero zero3]

/-- Row `n` of an array of rows, as a block. -/
def rowOf {α : Type} {p q r : ℕ} (x : (⟨3, ![p, q, r]⟩ : Shape).Idx → α) (n : Fin p) : (⟨3, ![1, q, r]⟩ : Shape).Idx → α :=
  fun y => x (ValueIdx.ix3 n (y 1) (y 2))

variable (Q : S10000x64x128.Idx → Elt F .f32) (S : S10000x1x64.Idx → Elt F .f32)

/-- The rewritten row of means, of scores. -/
def updMu (c : Dev nD) (n : Fin 10000) : Vec F S1x64x128 .f32 :=
  newMu (rowOf Q n) (rowOf S n) (rowOf (p := 10000) (q := 1) (r := 1024) (V c main_v2) n) (V c main_arg2) (V c main_v3 (ValueIdx.ix1 0 : S1.Idx))
def updSc (c : Dev nD) (n : Fin 10000) : Vec F S1x1x64 .f32 :=
  newSc (rowOf S n) (rowOf (p := 10000) (q := 1) (r := 1024) (V c main_v2) n)
def allMu (c : Dev nD) (i : S10000x64x128.Idx) : Elt F .f32 := updMu V Q S c (i 0) (ValueIdx.ix3 0 (i 1) (i 2) : S1x64x128.Idx)
def allSc (c : Dev nD) (i : S10000x1x64.Idx) : Elt F .f32 := updSc V S c (i 0) (ValueIdx.ix3 0 (i 1) (i 2) : S1x1x64.Idx)

/-- The call is entered with the gathered rows. -/
structure Entered (c : Dev nD) : Prop where
  mu : V c main_v4_0 = fun i : S256x64x128.Idx => Q (ValueIdx.ix3 (qrow1 a (i 0)) (i 1) (i 2) : S10000x64x128.Idx)
  sc : V c main_v4_1 = fun i : S256x1x64.Idx => S (ValueIdx.ix3 (qrow1 a (i 0)) (i 1) (i 2) : S10000x1x64.Idx)

variable {a V Q S}

theorem after15 {c : Dev nD} (h : Entered a V Q S c) (t : Fin (cfg1 a).N) : (data1 a V c).after 5 t = updMu V Q S c (qrow1 a (pt1 a t)) := by
  rw [data1_after5]
  refine (uMu_eq _ _ _ _ _).trans ?_
  have e0 : (blk1 a V c 0 t : S1x64x128.Idx → Elt F .f32) = rowOf Q (qrow1 a (pt1 a t)) := funext fun y => (blk10 a V c t y).trans (by rw [h.mu]; rfl)
  have e1 : (blk1 a V c 1 t : S1x1x64.Idx → Elt F .f32) = rowOf S (qrow1 a (pt1 a t)) := funext fun y => (blk11 a V c t y).trans (by rw [h.sc]; rfl)
  have e2 : (blk1 a V c 2 t : S1x1x1024.Idx → Elt F .f32) = rowOf (p := 10000) (q := 1) (r := 1024) (V c main_v2) (qrow1 a (pt1 a t)) := funext fun y => blk12 a V c t y
  have e3 : (blk1 a V c 3 t : S1024x128.Idx → Elt F .f32) = V c main_arg2 := funext fun y => blk13 a V c t y
  have e4 := blk14 a V c t (ValueIdx.ix1 0 : S1.Idx)
  unfold updMu
  exact congr (congr (congr (congr (congrArg newMu e0) e1) e2) e3) e4
theorem after16 {c : Dev nD} (h : Entered a V Q S c) (t : Fin (cfg1 a).N) : (data1 a V c).after 6 t = updSc V S c (qrow1 a (pt1 a t)) := by
  rw [data1_after6]
  refine (uSc_eq _ _).trans ?_
  have e1 : (blk1 a V c 1 t : S1x1x64.Idx → Elt F .f32) = rowOf S (qrow1 a (pt1 a t)) := funext fun y => (blk11 a V c t y).trans (by rw [h.sc]; rfl)
  have e2 : (blk1 a V c 2 t : S1x1x1024.Idx → Elt F .f32) = rowOf (p := 10000) (q := 1) (r := 1024) (V c main_v2) (qrow1 a (pt1 a t)) := funext fun y => blk12 a V c t y
  unfold updSc
  exact congr (congrArg newSc e1) e2

theorem flushed15 {c : Dev nD} (h : Entered a V Q S c) (t : Fin (cfg1 a).N) :
    (data1 a V c).flushed 5 t = (((cfg1 a).win 5).blk t).view.read (Elt F) (allMu V Q S c) := by
  funext (y : S1x64x128.Idx)
  refine (Pipeline.Dat.flushed_apply _ _ _ _).trans ?_
  rw [after15 h]
  refine Eq.trans ?_ (congrArg (allMu V Q S c) (emb15 a t y)).symm
  refine congrArg (updMu V Q S c (qrow1 a (pt1 a t))) (funext fun k => Fin.ext ?_)
  match k with
  | ⟨0, _⟩ => exact (unit_zero _).trans (unit_zero _).symm
  | ⟨1, _⟩ => rfl
  | ⟨2, _⟩ => rfl
theorem flushed16 {c : Dev nD} (h : Entered a V Q S c) (t : Fin (cfg1 a).N) :
    (data1 a V c).flushed 6 t = (((cfg1 a).win 6).blk t).view.read (Elt F) (allSc V S c) := by
  funext (y : S1x1x64.Idx)
  refine (Pipeline.Dat.flushed_apply _ _ _ _).trans ?_
  rw [after16 h]
  refine Eq.trans ?_ (congrArg (allSc V S c) (emb16 a t y)).symm
  refine congrArg (updSc V S c (qrow1 a (pt1 a t))) (funext fun k => Fin.ext ?_)
  match k with
  | ⟨0, _⟩ => exact (unit_zero _).trans (unit_zero _).symm
  | ⟨1, _⟩ => rfl
  | ⟨2, _⟩ => rfl

variable (a)

/-- The rows written are those the table names. -/
theorem written15 (i : S10000x64x128.Idx) :
    (∃ t, ((cfg1 a).win 5).flush t = true ∧ i ∈ (((cfg1 a).win 5).blk t).view.set) ↔ ∃ n, qrow1 a n = i 0 := by
  constructor
  · rintro ⟨t, -, hi⟩
    obtain ⟨(y : S1x64x128.Idx), hy⟩ := View.exists_emb_of_mem_set _ hi
    exact ⟨pt1 a t, (congrFun ((emb15 a t y).symm.trans hy) 0)⟩
  · rintro ⟨n, hn⟩
    obtain ⟨t₀, h₀⟩ := pt1_surjective a n
    obtain ⟨t, -, hf, hix⟩ := ((cfg1 a).win 5).exists_flush_same_index rfl t₀
    rw [index15, index15] at hix
    have hq : qrow1 a (pt1 a t) = i 0 := (Fin.ext (congrFun hix 0) : qrow1 a (pt1 a t) = qrow1 a (pt1 a t₀)).trans (by rw [h₀, hn])
    have e : (((cfg1 a).win 5).blk t).view.emb (ValueIdx.ix3 0 (i 1) (i 2) : S1x64x128.Idx) = i :=
      (emb15 a t _).trans (by rw [hq]; exact (ValueIdx.eq_ix3 i).symm)
    exact ⟨t, hf, e ▸ View.emb_mem_set _ _⟩
theorem written16 (i : S10000x1x64.Idx) :
    (∃ t, ((cfg1 a).win 6).flush t = true ∧ i ∈ (((cfg1 a).win 6).blk t).view.set) ↔ ∃ n, qrow1 a n = i 0 := by
  constructor
  · rintro ⟨t, -, hi⟩
    obtain ⟨(y : S1x1x64.Idx), hy⟩ := View.exists_emb_of_mem_set _ hi
    exact ⟨pt1 a t, (congrFun ((emb16 a t y).symm.trans hy) 0)⟩
  · rintro ⟨n, hn⟩
    obtain ⟨t₀, h₀⟩ := pt1_surjective a n
    obtain ⟨t, -, hf, hix⟩ := ((cfg1 a).win 6).exists_flush_same_index rfl t₀
    rw [index16, index16] at hix
    have hq : qrow1 a (pt1 a t) = i 0 := (Fin.ext (congrFun hix 0) : qrow1 a (pt1 a t) = qrow1 a (pt1 a t₀)).trans (by rw [h₀, hn])
    have e : (((cfg1 a).win 6).blk t).view.emb (ValueIdx.ix3 0 (i 1) (i 2) : S1x1x64.Idx) = i :=
      (emb16 a t _).trans (by rw [hq]; exact (ValueIdx.eq_ix3 i).symm)
    exact ⟨t, hf, e ▸ View.emb_mem_set _ _⟩

variable {a}

open Classical in
/-- The means the update call leaves. -/
theorem updated_mu {c : Dev nD} (h : Entered a V Q S c) (i : S10000x64x128.Idx) :
    (data1 a V c).arrAt 5 (cfg1 a).N i = if ∃ n, qrow1 a n = i 0 then allMu V Q S c i else V c main_v5_0 i := by
  by_cases h' : ∃ n, qrow1 a n = i 0
  · rw [if_pos h']
    exact ((written15 a i).mpr h').elim fun t ht =>
      (data1 a V c).arrAt_apply_of_mem 5 (allMu V Q S c) (fun t _ => flushed15 h t) _ t i t.isLt ht.1 ht.2
  · rw [if_neg h']
    exact (data1 a V c).arrAt_apply_of_forall_not_mem 5 _ i fun t _ hf hi => h' ((written15 a i).mp ⟨t, hf, hi⟩)
open Classical in
/-- The scores the update call leaves. -/
theorem updated_sc {c : Dev nD} (h : Entered a V Q S c) (i : S10000x1x64.Idx) :
    (data1 a V c).arrAt 6 (cfg1 a).N i = if ∃ n, qrow1 a n = i 0 then allSc V S c i else V c main_v5_1 i := by
  by_cases h' : ∃ n, qrow1 a n = i 0
  · rw [if_pos h']
    exact ((written16 a i).mpr h').elim fun t ht =>
      (data1 a V c).arrAt_apply_of_mem 6 (allSc V S c) (fun t _ => flushed16 h t) _ t i t.isLt ht.1 ht.2
  · rw [if_neg h']
    exact (data1 a V c).arrAt_apply_of_forall_not_mem 6 _ i fun t _ hf hi => h' ((written16 a i).mp ⟨t, hf, hi⟩)

end Cert.KernelIdeal.Hand

end
-- ==== Proof.Target.lean ====
module

public import proofs.«01_k».proof.Proof.Rows

/-! The two results as functions of the six arguments, over the extended reals: a row of the queue the index names is
rewritten by the best 64 of its 64 stored and 1024 incoming entries, every other row is kept. -/

@[expose] public section

noncomputable section

namespace Cert.Rank

open Idealize.ShloMosaic

abbrev MuQ := (⟨3, ![10000, 64, 128]⟩ : Shape).Idx → EReal
abbrev ScQ := (⟨2, ![10000, 64]⟩ : Shape).Idx → EReal
abbrev MuIn := (⟨2, ![1024, 128]⟩ : Shape).Idx → EReal
abbrev ScIn := (⟨2, ![1024, 10000]⟩ : Shape).Idx → EReal
abbrev Words := (⟨1, ![256]⟩ : Shape).Idx → BitVec 32

/-- A class's entries: its stored scores, then the incoming ones. -/
def entries (a1 : ScQ) (a3 : ScIn) (n : Fin 10000) : Fin 1088 → EReal :=
  joined (fun j => a1 (ValueIdx.ix2 n j)) (fun j => a3 (ValueIdx.ix2 j n))

/-- The entry of rank `r`. -/
def best (s : Fin 1088 → EReal) (r : Fin 64) : Fin 1088 :=
  sortedFrom (fun i j => decide (s j < s i)) (r.castLE (by decide))

theorem rankOf_best (s : Fin 1088 → EReal) (r : Fin 64) : rankOf s (best s r) = r.val :=
  rankOf_sortedFrom s _ (fun _ _ => decide_eq_true_iff) _

/-- A rewritten row. -/
def scAt (a1 : ScQ) (a3 : ScIn) (n : Fin 10000) (r : Fin 64) : EReal := entries a1 a3 n (best (entries a1 a3 n) r)
def muAt (a0 : MuQ) (a1 : ScQ) (a2 : MuIn) (a3 : ScIn) (q : EReal) (n : Fin 10000) (r : Fin 64) (d : Fin 128) : EReal :=
  (Ideal.ofBits .f32 0x3F800000#32 - q) * a0 (ValueIdx.ix3 n r d)
    + q * joined (fun j => a0 (ValueIdx.ix3 n j d)) (fun j => a2 (ValueIdx.ix2 j d)) (best (entries a1 a3 n) r)

open Classical in
/-- The two results. -/
def outMu (a0 : MuQ) (a1 : ScQ) (a2 : MuIn) (a3 : ScIn) (a4 : Words) (q : EReal) : MuQ := fun i =>
  if ∃ t : Fin 256, (a4 (ValueIdx.ix1 t)).toNat = (i 0).val then muAt a0 a1 a2 a3 q (i 0) (i 1) (i 2) else a0 i
open Classical in
def outSc (a1 : ScQ) (a3 : ScIn) (a4 : Words) : ScQ := fun i =>
  if ∃ t : Fin 256, (a4 (ValueIdx.ix1 t)).toNat = (i 0).val then scAt a1 a3 (i 0) (i 1) else a1 i

end Cert.Rank

end
-- ==== Proof.KernelValue.lean ====
module

public import proofs.«01_k».proof.Proof.Updates
public import proofs.«01_k».proof.Proof.Target

/-! The two results of the kernel's program are the target functions of its arguments: the host stretches lay the arguments
out, the first call gathers the rows the index names, the second rewrites them. -/

@[expose] public section

set_option maxRecDepth 16384

noncomputable section

namespace Cert.KernelIdeal.Hand

open Idealize.ShloMosaic Idealize.ShloMosaic.TcCoe Idealize.ShloMosaic.StableHlo Idealize.SL Idealize.SL.Sem
open Cert.KernelIdeal.Gen Cert.Rank

/-- Two choices agree when their tests and their branches do, however the tests are decided. -/
theorem choice_congr {α : Type} {b c : Prop} {db : Decidable b} {dc : Decidable c} {x y u v : α} (h : b ↔ c) (hx : x = u) (hy : y = v) :
    @ite α b db x y = @ite α c dc u v := by
  subst hx hy
  exact if_congr h rfl rfl

section Generic

variable {F : FTy → Type} [FloatOps F]
variable (m : (l : Loc nD τ sig) → Buf (Elt F) l)
variable (a : (p : Fin 2) → (pcfgs (F := F) p).Adm)

/-- The arguments laid out by the first stretch: the scores and the incoming scores one row per class, the coefficient as a
    vector of one. -/
def scRows (c : Dev nD) : S10000x1x64.Idx → Elt F .f32 :=
  shapeCast S10000x1x64 (m ((c : Thread nD τ).loc main_arg1)) shapeCasts_S10000x64_S10000x1x64
def inRows (c : Dev nD) : S10000x1x1024.Idx → Elt F .f32 :=
  shapeCast S10000x1x1024 (transpose S10000x1024 [1, 0] (m ((c : Thread nD τ).loc main_arg3)) transposes_S1024x10000_S10000x1024_1_0)
    shapeCasts_S10000x1024_S10000x1x1024
def coeVec (c : Dev nD) : S1.Idx → Elt F .f32 := shapeCast S1 (m ((c : Thread nD τ).loc main_arg5)) shapeCasts_S_S1

theorem W1_v0 (c : Dev nD) : W1 m c (Proc.devRef .tc main_v0) = scRows m c := by
  unfold W1 hostOps0
  after_results
  rfl
theorem W1_v2 (c : Dev nD) : W1 m c (Proc.devRef .tc main_v2) = inRows m c := by
  unfold W1 hostOps0
  after_results
  rfl
theorem W1_v3 (c : Dev nD) : W1 m c (Proc.devRef .tc main_v3) = coeVec m c := by
  unfold W1 hostOps0
  after_results
  rfl

theorem scRows_apply (c : Dev nD) (n : Fin 10000) (u : Fin 1) (r : Fin 64) :
    scRows m c (ValueIdx.ix3 n u r) = m ((c : Thread nD τ).loc main_arg1) (ValueIdx.ix2 n r : S10000x64.Idx) := by
  refine shapeCast_apply (s := S10000x64) (t := S10000x1x64) _ _ _ _ ?_
  rw [Shape.rowMajor_val_two, Shape.rowMajor_val_three]
  show n.val * 64 + r.val = (n.val * 1 + u.val) * 64 + r.val
  rw [unit_zero u]; omega
theorem inRows_apply (c : Dev nD) (n : Fin 10000) (u : Fin 1) (r : Fin 1024) :
    inRows m c (ValueIdx.ix3 n u r) = m ((c : Thread nD τ).loc main_arg3) (ValueIdx.ix2 r n : S1024x10000.Idx) := by
  refine (shapeCast_apply (s := S10000x1024) (t := S10000x1x1024) _ _ _ (ValueIdx.ix2 n r : S10000x1024.Idx) ?_).trans ?_
  · rw [Shape.rowMajor_val_two, Shape.rowMajor_val_three]
    show n.val * 1024 + r.val = (n.val * 1 + u.val) * 1024 + r.val
    rw [unit_zero u]; omega
  · refine congrArg (m ((c : Thread nD τ).loc main_arg3)) (funext fun k => ?_)
    match k with
    | ⟨0, _⟩ => rfl
    | ⟨1, _⟩ => rfl
theorem coeVec_apply (c : Dev nD) : coeVec m c (ValueIdx.ix1 0) = m ((c : Thread nD τ).loc main_arg5) (ValueIdx.ix0 : S_.Idx) := by
  unfold coeVec shapeCast
  exact congrArg (m ((c : Thread nD τ).loc main_arg5)) (funext fun k => k.elim0)

/-- Through the first call and the second stretch. -/
theorem W3_v50 (c : Dev nD) : W3 a m c (Proc.devRef .tc main_v5_0) = m ((c : Thread nD τ).loc main_arg0) := by
  refine Eq.trans ?_ (W2_args a m c main_arg0 (by decide))
  unfold W3 hostOps1
  after_results
  rfl
theorem W2_v0 (c : Dev nD) : W2 a m c (Proc.devRef .tc main_v0) = scRows m c :=
  (W2_of a m c main_v0 (by decide +kernel)).trans (W1_v0 m c)
theorem W3_v51 (c : Dev nD) : W3 a m c (Proc.devRef .tc main_v5_1) = scRows m c := by
  refine Eq.trans ?_ (W2_v0 m a c)
  unfold W3 hostOps1
  after_results
  rfl
theorem W3_v2 (c : Dev nD) : W3 a m c (Proc.devRef .tc main_v2) = inRows m c :=
  (W3_of a m c main_v2 (by decide)).trans ((W2_of a m c main_v2 (by decide +kernel)).trans (W1_v2 m c))
theorem W3_v3 (c : Dev nD) : W3 a m c (Proc.devRef .tc main_v3) = coeVec m c :=
  (W3_of a m c main_v3 (by decide)).trans ((W2_of a m c main_v3 (by decide +kernel)).trans (W1_v3 m c))
theorem W3_v40 (c : Dev nD) : W3 a m c (Proc.devRef .tc main_v4_0) = rowsMu (a 0) (fun c b => W1 m c (Proc.devRef .tc b)) c :=
  (W3_of a m c main_v4_0 (by decide)).trans ((W2_arr a m c 2).trans (gathered_mu (a 0) _ c))
theorem W3_v41 (c : Dev nD) : W3 a m c (Proc.devRef .tc main_v4_1) = rowsSc (a 0) (fun c b => W1 m c (Proc.devRef .tc b)) c :=
  (W3_of a m c main_v4_1 (by decide)).trans ((W2_arr a m c 3).trans (gathered_sc (a 0) _ c))

variable (h : ∀ i, (idxArg m i).toNat < 10000)

/-- Both calls read the same row at the same point. -/
theorem same_row (n : Fin 256) : qrow0 (tables m h 0) n = qrow1 (tables m h 1) n := rfl

theorem entered (c : Dev nD) : Entered (tables m h 1) (fun c b => W3 (tables m h) m c (Proc.devRef .tc b))
    (m ((c : Thread nD τ).loc main_arg0)) (scRows m c) c where
  mu := by
    refine (W3_v40 m (tables m h) c).trans (funext fun i => ?_)
    exact congrFun (W1_args m c main_arg0 (by decide)) _
  sc := by
    refine (W3_v41 m (tables m h) c).trans (funext fun i => ?_)
    exact congrFun (W1_v0 m c) _

open Classical in
theorem W5_mu (c : Dev nD) (i : S10000x64x128.Idx) : W5 (tables m h) m c (Proc.devRef .tc main_v5_0) i
    = if ∃ n, qrow1 (tables m h 1) n = i 0 then
        allMu (fun c b => W3 (tables m h) m c (Proc.devRef .tc b)) (m ((c : Thread nD τ).loc main_arg0)) (scRows m c) c i
      else m ((c : Thread nD τ).loc main_arg0) i :=
  (congrFun ((W5_of (tables m h) m c main_v5_0 (by decide)).trans (W4_arr (tables m h) m c 5)) i).trans
    ((updated_mu (entered m h c) i).trans (if_congr Iff.rfl rfl (congrFun (W3_v50 m (tables m h) c) i)))
open Classical in
theorem W4_sc (c : Dev nD) (i : S10000x1x64.Idx) : W4 (tables m h) m c (Proc.devRef .tc main_v5_1) i
    = if ∃ n, qrow1 (tables m h 1) n = i 0 then
        allSc (fun c b => W3 (tables m h) m c (Proc.devRef .tc b)) (scRows m c) c i
      else scRows m c i :=
  (congrFun (W4_arr (tables m h) m c 6) i).trans
    ((updated_sc (entered m h c) i).trans (if_congr Iff.rfl rfl (congrFun (W3_v51 m (tables m h) c) i)))
theorem W5_sc (c : Dev nD) (n : Fin 10000) (r : Fin 64) : W5 (tables m h) m c (Proc.devRef .tc main_v6) (ValueIdx.ix2 n r : S10000x64.Idx)
    = W4 (tables m h) m c (Proc.devRef .tc main_v5_1) (ValueIdx.ix3 n 0 r : S10000x1x64.Idx) := by
  have e : W5 (tables m h) m c (Proc.devRef .tc main_v6)
      = shapeCast S10000x64 (W4 (tables m h) m c (Proc.devRef .tc main_v5_1)) shapeCasts_S10000x1x64_S10000x64 := by
    unfold W5 hostOps2
    after_results
    rfl
  refine (congrFun e _).trans (shapeCast_apply (s := S10000x1x64) (t := S10000x64) _ _ _ _ ?_)
  rw [Shape.rowMajor_val_two, Shape.rowMajor_val_three]
  show (n.val * 1 + 0) * 64 + r.val = n.val * 64 + r.val
  omega

end Generic

section Exact

variable (m : (l : Loc nD τ sig) → Buf (Elt Ideal) l) (h : ∀ i, (idxArg m i).toNat < 10000)
variable (hq : ∀ (c : Dev nD) (i : S10000x64.Idx), pad ≤ (m ((c : Thread nD τ).loc main_arg1) i : EReal))

/-- A mixture depends on its coefficient and its incoming means alone. -/
theorem mixed_congr {one q q' x : EReal} {f : Fin 64 → EReal} {g g' : Fin 1024 → EReal} {k : Fin 1088} (hq : q = q') (hg : g = g') :
    (one - q) * x + q * joined f g k = (one - q') * x + q' * joined f g' k := by subst hq hg; rfl

/-- A row's entries, as the body reads them. -/
theorem row_entries (c : Dev nD) (V : (c : Dev nD) → (b : Ref sig .tc) → Buf (Elt Ideal) ((c : Thread nD τ).loc b))
    (hV : V c main_v2 = inRows m c) (n : Fin 10000) :
    joined (fun j => rowOf (scRows m c) n (ValueIdx.ix3 0 0 j)) (fun j => rowOf (p := 10000) (q := 1) (r := 1024) (V c main_v2) n (ValueIdx.ix3 0 0 j))
      = entries (m ((c : Thread nD τ).loc main_arg1)) (m ((c : Thread nD τ).loc main_arg3)) n := by
  unfold entries
  refine congr (congrArg joined (funext fun j => ?_)) (funext fun j => ?_)
  · exact scRows_apply m c n 0 j
  · rw [hV]; exact inRows_apply m c n 0 j

include hq in
theorem row_above (c : Dev nD) (n : Fin 10000) (j : Fin 64) : pad ≤ (rowOf (scRows m c) n (ValueIdx.ix3 0 0 j : S1x1x64.Idx) : EReal) :=
  (hq c (ValueIdx.ix2 n j)).trans (scRows_apply m c n 0 j).symm.le

include hq in
theorem kernel_sc (c : Dev nD) : W5 (tables m h) m c (Proc.devRef .tc main_v6)
    = outSc (m ((c : Thread nD τ).loc main_arg1)) (m ((c : Thread nD τ).loc main_arg3)) (m ((c : Thread nD τ).loc main_arg4)) := by
  funext (i : S10000x64.Idx)
  obtain ⟨n, r, rfl⟩ : ∃ (n : Fin 10000) (r : Fin 64), i = ValueIdx.ix2 n r := ⟨i 0, i 1, ValueIdx.eq_ix2 i⟩
  refine (W5_sc m h c n r).trans ((W4_sc m h c _).trans ?_)
  unfold outSc
  have hc : m ((c : Thread nD τ).loc main_arg4) = idxArg m := by rw [Subsingleton.elim c 0]; rfl
  refine choice_congr (exists_congr fun t => ?_) ?_ (scRows_apply m c n 0 r)
  · rw [hc]; exact Fin.ext_iff
  · have e := row_entries m c (fun c b => W3 (tables m h) m c (Proc.devRef .tc b)) (W3_v2 m (tables m h) c) n
    refine (newSc_apply _ _ (row_above m hq c n) r (best (entries (m ((c : Thread nD τ).loc main_arg1)) (m ((c : Thread nD τ).loc main_arg3)) n) r) ?_).trans ?_
    · rw [e]; exact rankOf_best _ r
    · rw [e]; rfl

include hq in
theorem kernel_mu (c : Dev nD) : W5 (tables m h) m c (Proc.devRef .tc main_v5_0)
    = outMu (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5) (ValueIdx.ix0 : S_.Idx)) := by
  funext (i : S10000x64x128.Idx)
  obtain ⟨n, r, d, rfl⟩ : ∃ (n : Fin 10000) (r : Fin 64) (d : Fin 128), i = ValueIdx.ix3 n r d := ⟨i 0, i 1, i 2, ValueIdx.eq_ix3 i⟩
  refine (W5_mu m h c _).trans ?_
  unfold outMu
  have hc : m ((c : Thread nD τ).loc main_arg4) = idxArg m := by rw [Subsingleton.elim c 0]; rfl
  refine choice_congr (exists_congr fun t => ?_) ?_ rfl
  · rw [hc]; exact Fin.ext_iff
  · have e := row_entries m c (fun c b => W3 (tables m h) m c (Proc.devRef .tc b)) (W3_v2 m (tables m h) c) n
    have eq : (W3 (tables m h) m c (Proc.devRef .tc main_v3) (ValueIdx.ix1 0 : S1.Idx) : EReal) = m ((c : Thread nD τ).loc main_arg5) (ValueIdx.ix0 : S_.Idx) :=
      (congrFun (W3_v3 m (tables m h) c) _).trans (coeVec_apply m c)
    have e2 : W3 (tables m h) m c (Proc.devRef .tc main_arg2) = m ((c : Thread nD τ).loc main_arg2) := W3_args (tables m h) m c main_arg2 (by decide)
    refine (newMu_apply _ _ _ _ _ (row_above m hq c n) r (best (entries (m ((c : Thread nD τ).loc main_arg1)) (m ((c : Thread nD τ).loc main_arg3)) n) r) ?_ d).trans ?_
    · rw [e]; exact rankOf_best _ r
    · exact mixed_congr eq (funext fun j => congrFun e2 (ValueIdx.ix2 j d))

end Exact

end Cert.KernelIdeal.Hand

end
-- ==== Proof.Reads.lean ====
module

public import proofs.«01_k».proof.Proof.Gen.ReferenceIdeal.Run
public import proofs.«01_k».proof.Proof.Target
public import Idealize.ShloMosaic.Lib.Routing.OpsSet
public import Idealize.ShloMosaic.Lib.ReduceAll

/-! The reference's gathers and scatters, read at an index: a gather by class reads that class's row or column, the take
reads the named entry of its own class, a scatter writes the rows its index names. -/

@[expose] public section

set_option maxRecDepth 16384

noncomputable section

namespace Cert.ReferenceIdeal.Hand

open Idealize.ShloMosaic Idealize.SL.Sem Idealize.ShloMosaic.ValueIdx
open Cert.ReferenceIdeal Cert.ReferenceIdeal.Gen

variable {α : Type}

theorem gatherRow_apply (x : S10000x64.Idx → α) (idx : IVec S256x2 32) (t : Fin 256) (r : Fin 64) (n : Fin 10000)
    (hn : (idx (ix2 t 0 : S256x2.Idx)).toInt.toNat = n.val) :
    Host.gather gather_S10000x64_S256x2_S256x1x64_12_n_n_n_01_1_164 x idx (ix3 t 0 r : S256x1x64.Idx) = x (ix2 n r) := by
  unfold Host.gather
  refine congrArg x (funext fun a => Fin.ext ?_)
  match a with
  | ⟨0, _⟩ =>
    show min (idx (gather_S10000x64_S256x2_S256x1x64_12_n_n_n_01_1_164.siIdx (ix3 t 0 r : S256x1x64.Idx) ⟨0, by decide⟩)).toInt.toNat (10000 - 1) + 0 + 0 = n.val
    have e : gather_S10000x64_S256x2_S256x1x64_12_n_n_n_01_1_164.siIdx (ix3 t 0 r : S256x1x64.Idx) ⟨0, by decide⟩ = (ix2 t 0 : S256x2.Idx) := by
      funext b; refine Fin.ext ?_
      match b with
      | ⟨0, _⟩ => rfl
      | ⟨1, _⟩ => rfl
    rw [e, hn]; have := n.isLt; omega
  | ⟨1, _⟩ =>
    show min (idx (gather_S10000x64_S256x2_S256x1x64_12_n_n_n_01_1_164.siIdx (ix3 t 0 r : S256x1x64.Idx) ⟨1, by decide⟩)).toInt.toNat (64 - 64) + 0 + r.val = r.val
    omega

theorem gatherCol_apply (x : S1024x10000.Idx → α) (idx : IVec S256x2 32) (t : Fin 256) (b : Fin 1024) (n : Fin 10000)
    (hn : (idx (ix2 t 1 : S256x2.Idx)).toInt.toNat = n.val) :
    Host.gather gather_S1024x10000_S256x2_S256x1024x1_12_n_n_n_01_1_10241 x idx (ix3 t b 0 : S256x1024x1.Idx) = x (ix2 b n) := by
  unfold Host.gather
  refine congrArg x (funext fun a => Fin.ext ?_)
  match a with
  | ⟨0, _⟩ =>
    show min (idx (gather_S1024x10000_S256x2_S256x1024x1_12_n_n_n_01_1_10241.siIdx (ix3 t b 0 : S256x1024x1.Idx) ⟨0, by decide⟩)).toInt.toNat (1024 - 1024) + 0 + b.val = b.val
    omega
  | ⟨1, _⟩ =>
    show min (idx (gather_S1024x10000_S256x2_S256x1024x1_12_n_n_n_01_1_10241.siIdx (ix3 t b 0 : S256x1024x1.Idx) ⟨1, by decide⟩)).toInt.toNat (10000 - 1) + 0 + 0 = n.val
    have e : gather_S1024x10000_S256x2_S256x1024x1_12_n_n_n_01_1_10241.siIdx (ix3 t b 0 : S256x1024x1.Idx) ⟨1, by decide⟩ = (ix2 t 1 : S256x2.Idx) := by
      funext b; refine Fin.ext ?_
      match b with
      | ⟨0, _⟩ => rfl
      | ⟨1, _⟩ => rfl
    rw [e, hn]; have := n.isLt; omega

theorem gatherMeans_apply (x : S10000x64x128.Idx → α) (idx : IVec S256x3 32) (t : Fin 256) (r : Fin 64) (d : Fin 128) (n : Fin 10000)
    (hn : (idx (ix2 t 0 : S256x3.Idx)).toInt.toNat = n.val) :
    Host.gather gather_S10000x64x128_S256x3_S256x1x64x128_123_n_n_n_012_1_164128 x idx (ix4 t 0 r d : S256x1x64x128.Idx) = x (ix3 n r d) := by
  unfold Host.gather
  refine congrArg x (funext fun a => Fin.ext ?_)
  match a with
  | ⟨0, _⟩ =>
    show min (idx (gather_S10000x64x128_S256x3_S256x1x64x128_123_n_n_n_012_1_164128.siIdx (ix4 t 0 r d : S256x1x64x128.Idx) ⟨0, by decide⟩)).toInt.toNat (10000 - 1) + 0 + 0 = n.val
    have e : gather_S10000x64x128_S256x3_S256x1x64x128_123_n_n_n_012_1_164128.siIdx (ix4 t 0 r d : S256x1x64x128.Idx) ⟨0, by decide⟩ = (ix2 t 0 : S256x3.Idx) := by
      funext b; refine Fin.ext ?_
      match b with
      | ⟨0, _⟩ => rfl
      | ⟨1, _⟩ => rfl
    rw [e, hn]; have := n.isLt; omega
  | ⟨1, _⟩ =>
    show min (idx (gather_S10000x64x128_S256x3_S256x1x64x128_123_n_n_n_012_1_164128.siIdx (ix4 t 0 r d : S256x1x64x128.Idx) ⟨1, by decide⟩)).toInt.toNat (64 - 64) + 0 + r.val = r.val
    omega
  | ⟨2, _⟩ =>
    show min (idx (gather_S10000x64x128_S256x3_S256x1x64x128_123_n_n_n_012_1_164128.siIdx (ix4 t 0 r d : S256x1x64x128.Idx) ⟨2, by decide⟩)).toInt.toNat (128 - 128) + 0 + d.val = d.val
    omega

theorem takeScores_apply (x : S256x1088.Idx → α) (idx : IVec S256x64x1 32) (t : Fin 256) (r : Fin 64) (k : Fin 1088)
    (hk : (idx (ix3 t r 0 : S256x64x1.Idx)).toInt.toNat = k.val) :
    Host.gather gather_S256x1088_S256x64x1_S256x64_n_1_0_0_1_2_11 x idx (ix2 t r : S256x64.Idx) = x (ix2 t k) := by
  unfold Host.gather
  refine congrArg x (funext fun a => Fin.ext ?_)
  match a with
  | ⟨0, _⟩ =>
    show 0 + t.val + 0 = t.val
    omega
  | ⟨1, _⟩ =>
    show min (idx (gather_S256x1088_S256x64x1_S256x64_n_1_0_0_1_2_11.siIdx (ix2 t r : S256x64.Idx) ⟨0, by decide⟩)).toInt.toNat (1088 - 1) + 0 + 0 = k.val
    have e : gather_S256x1088_S256x64x1_S256x64_n_1_0_0_1_2_11.siIdx (ix2 t r : S256x64.Idx) ⟨0, by decide⟩ = (ix3 t r 0 : S256x64x1.Idx) := by
      funext b; refine Fin.ext ?_
      match b with
      | ⟨0, _⟩ => rfl
      | ⟨1, _⟩ => rfl
      | ⟨2, _⟩ => rfl
    rw [e, hk]; have := k.isLt; omega

theorem takeMeans_apply (x : S256x1088x128.Idx → α) (idx : IVec S256x64x1 32) (t : Fin 256) (r : Fin 64) (d : Fin 128) (k : Fin 1088)
    (hk : (idx (ix3 t r 0 : S256x64x1.Idx)).toInt.toNat = k.val) :
    Host.gather gather_S256x1088x128_S256x64x1_S256x64x128_2_1_0_0_1_2_11128 x idx (ix3 t r d : S256x64x128.Idx) = x (ix3 t k d) := by
  unfold Host.gather
  refine congrArg x (funext fun a => Fin.ext ?_)
  match a with
  | ⟨0, _⟩ =>
    show 0 + t.val + 0 = t.val
    omega
  | ⟨1, _⟩ =>
    show min (idx (gather_S256x1088x128_S256x64x1_S256x64x128_2_1_0_0_1_2_11128.siIdx (ix3 t r d : S256x64x128.Idx) ⟨0, by decide⟩)).toInt.toNat (1088 - 1) + 0 + 0 = k.val
    have e : gather_S256x1088x128_S256x64x1_S256x64x128_2_1_0_0_1_2_11128.siIdx (ix3 t r d : S256x64x128.Idx) ⟨0, by decide⟩ = (ix3 t r 0 : S256x64x1.Idx) := by
      funext b; refine Fin.ext ?_
      match b with
      | ⟨0, _⟩ => rfl
      | ⟨1, _⟩ => rfl
      | ⟨2, _⟩ => rfl
    rw [e, hk]; have := k.isLt; omega
  | ⟨2, _⟩ =>
    show 0 + 0 + d.val = d.val
    omega

/-- An update lands at an index when its start and window coordinates add up to it. -/
theorem lands_of {s si u : Shape} (d : ScatterDims s si u) (j : u.Idx) (idx : IVec si 32) (i : s.Idx)
    (h : ∀ a, d.start j idx a + (d.window j a : ℤ) = (i a).val) : d.resultIdx? j idx = some i := by
  unfold ScatterDims.resultIdx?
  rw [dif_pos fun a => by rw [h a]; exact ⟨Int.natCast_nonneg _, Int.ofNat_lt.mpr (i a).isLt⟩]
  exact congrArg some (funext fun a => Fin.ext (by show (d.start j idx a + (d.window j a : ℤ)).toNat = _; rw [h a]; exact Int.toNat_natCast _))

theorem landsScore (idx : IVec S256x1 32) (t : Fin 256) (r : Fin 64) (n : Fin 10000) (hn : (idx (ix2 t 0 : S256x1.Idx)).toInt = n.val) :
    scatter_S10000x64_S256x1_S256x64_1_0_0_1.resultIdx? (ix2 t r : S256x64.Idx) idx = some (ix2 n r : S10000x64.Idx) := by
  refine lands_of _ _ _ _ fun a => ?_
  match a with
  | ⟨0, _⟩ =>
    have e : scatter_S10000x64_S256x1_S256x64_1_0_0_1.siIdx (ix2 t r : S256x64.Idx) ⟨0, by decide⟩ = (ix2 t 0 : S256x1.Idx) := by
      funext b; refine Fin.ext ?_
      match b with
      | ⟨0, _⟩ => rfl
      | ⟨1, _⟩ => rfl
    show (idx (scatter_S10000x64_S256x1_S256x64_1_0_0_1.siIdx (ix2 t r : S256x64.Idx) ⟨0, by decide⟩)).toInt + ((0 : ℕ) : ℤ) = n.val
    rw [e, hn]; omega
  | ⟨1, _⟩ => exact Int.zero_add _

theorem landsMeans (idx : IVec S256x1 32) (t : Fin 256) (r : Fin 64) (d : Fin 128) (n : Fin 10000) (hn : (idx (ix2 t 0 : S256x1.Idx)).toInt = n.val) :
    scatter_S10000x64x128_S256x1_S256x64x128_12_0_0_1.resultIdx? (ix3 t r d : S256x64x128.Idx) idx = some (ix3 n r d : S10000x64x128.Idx) := by
  refine lands_of _ _ _ _ fun a => ?_
  match a with
  | ⟨0, _⟩ =>
    have e : scatter_S10000x64x128_S256x1_S256x64x128_12_0_0_1.siIdx (ix3 t r d : S256x64x128.Idx) ⟨0, by decide⟩ = (ix2 t 0 : S256x1.Idx) := by
      funext b; refine Fin.ext ?_
      match b with
      | ⟨0, _⟩ => rfl
      | ⟨1, _⟩ => rfl
    show (idx (scatter_S10000x64x128_S256x1_S256x64x128_12_0_0_1.siIdx (ix3 t r d : S256x64x128.Idx) ⟨0, by decide⟩)).toInt + ((0 : ℕ) : ℤ) = n.val
    rw [e, hn]; omega
  | ⟨1, _⟩ => exact Int.zero_add _
  | ⟨2, _⟩ => exact Int.zero_add _

open Classical in
/-- A scatter of rows, when the updates of one row agree: the named rows are written, the others kept. -/
theorem scatterScores_apply (x : S10000x64.Idx → α) (idx : IVec S256x1 32) (upd : S256x64.Idx → α) (row : Fin 256 → Fin 10000)
    (hrow : ∀ t, (idx (ix2 t 0 : S256x1.Idx)).toInt = (row t).val) (val : Fin 10000 → Fin 64 → α)
    (hu : ∀ t r, upd (ix2 t r : S256x64.Idx) = val (row t) r) (n : Fin 10000) (r : Fin 64) :
    Host.scatter scatter_S10000x64_S256x1_S256x64_1_0_0_1 (fun _ b => b) x idx upd (ix2 n r : S10000x64.Idx)
      = if ∃ t, row t = n then val n r else x (ix2 n r) := by
  have land (k : S256x64.Idx) : scatter_S10000x64_S256x1_S256x64_1_0_0_1.resultIdx? k idx = some (ix2 (row (k 0)) (k 1) : S10000x64.Idx) :=
    (congrArg (fun k => scatter_S10000x64_S256x1_S256x64_1_0_0_1.resultIdx? k idx) (eq_ix2 k)).trans (landsScore idx (k 0) (k 1) (row (k 0)) (hrow (k 0)))
  by_cases h : ∃ t, row t = n
  · rw [if_pos h]
    obtain ⟨t, rfl⟩ := h
    refine Routing.scatter_set_hit _ _ _ _ _ _ (fun k hk => ?_) (ix2 t r : S256x64.Idx) (landsScore idx t r _ (hrow t))
    have e := Option.some.inj ((land k).symm.trans hk)
    have e0 : row (k 0) = row t := congrFun e 0
    have e1 : (k 1 : Fin 64) = r := congrFun e 1
    exact (congrArg upd (eq_ix2 k)).trans ((hu (k 0) (k 1)).trans (congr (congrArg val e0) e1))
  · rw [if_neg h]
    refine Routing.scatter_set_miss _ _ _ _ _ fun k hk => h ⟨k 0, ?_⟩
    exact congrFun (Option.some.inj ((land k).symm.trans hk)) 0

open Classical in
theorem scatterMeans_apply (x : S10000x64x128.Idx → α) (idx : IVec S256x1 32) (upd : S256x64x128.Idx → α) (row : Fin 256 → Fin 10000)
    (hrow : ∀ t, (idx (ix2 t 0 : S256x1.Idx)).toInt = (row t).val) (val : Fin 10000 → Fin 64 → Fin 128 → α)
    (hu : ∀ t r d, upd (ix3 t r d : S256x64x128.Idx) = val (row t) r d) (n : Fin 10000) (r : Fin 64) (d : Fin 128) :
    Host.scatter scatter_S10000x64x128_S256x1_S256x64x128_12_0_0_1 (fun _ b => b) x idx upd (ix3 n r d : S10000x64x128.Idx)
      = if ∃ t, row t = n then val n r d else x (ix3 n r d) := by
  have land (k : S256x64x128.Idx) :
      scatter_S10000x64x128_S256x1_S256x64x128_12_0_0_1.resultIdx? k idx = some (ix3 (row (k 0)) (k 1) (k 2) : S10000x64x128.Idx) :=
    (congrArg (fun k => scatter_S10000x64x128_S256x1_S256x64x128_12_0_0_1.resultIdx? k idx) (eq_ix3 k)).trans
      (landsMeans idx (k 0) (k 1) (k 2) (row (k 0)) (hrow (k 0)))
  by_cases h : ∃ t, row t = n
  · rw [if_pos h]
    obtain ⟨t, rfl⟩ := h
    refine Routing.scatter_set_hit _ _ _ _ _ _ (fun k hk => ?_) (ix3 t r d : S256x64x128.Idx) (landsMeans idx t r d _ (hrow t))
    have e := Option.some.inj ((land k).symm.trans hk)
    have e0 : row (k 0) = row t := congrFun e 0
    have e1 : (k 1 : Fin 64) = r := congrFun e 1
    have e2 : (k 2 : Fin 128) = d := congrFun e 2
    exact (congrArg upd (eq_ix3 k)).trans ((hu (k 0) (k 1) (k 2)).trans (congr (congr (congrArg val e0) e1) e2))
  · rw [if_neg h]
    refine Routing.scatter_set_miss _ _ _ _ _ fun k hk => h ⟨k 0, ?_⟩
    exact congrFun (Option.some.inj ((land k).symm.trans hk)) 0

end Cert.ReferenceIdeal.Hand

end
-- ==== Proof.Sorted.lean ====
module

public import proofs.«01_k».proof.Proof.Reads

/-! The reference's sort, read at an index: the 64 positions it takes for a class are those of the class's best 64 entries. -/

@[expose] public section

set_option maxRecDepth 16384

noncomputable section

namespace Cert.ReferenceIdeal.Hand

open Idealize.ShloMosaic Idealize.SL.Sem Idealize.ShloMosaic.ValueIdx
open Cert.ReferenceIdeal Cert.ReferenceIdeal.Gen Cert.Rank

section Rows

variable (a4 : IVec S256 32)

/-- The class of each place of the index, wrapped as the program wraps negative ones; as a column. -/
def classes : IVec S256 32 :=
  select (cmpi .slt a4 (broadcastInDim S256 ![] bcast_S_S256 (constantI S_ 32 0#32)))
    (addi a4 (broadcastInDim S256 ![] bcast_S_S256 (constantI S_ 32 10000#32))) a4
def column : IVec S256x1 32 := broadcastInDim S256x1 ![0] bcast_S256_S256x1_0 (classes a4)
/-- The start of a slice along its other axes. -/
def zeros (n : BitVec 32) : IVec S256x1 32 :=
  broadcastInDim S256x1 ![] bcast_S_S256x1
    (select (cmpi .slt (constantI S_ 32 0#32) (constantI S_ 32 0#32)) (addi (constantI S_ 32 0#32) (constantI S_ 32 n)) (constantI S_ 32 0#32))

variable (h : ∀ i, (a4 i).toNat < 10000)

def row (t : Fin 256) : Fin 10000 := ⟨(a4 (ix1 t)).toNat, h _⟩

/-- A word below 2³¹ is not negative. -/
theorem not_neg (w : BitVec 32) (n : ℕ) (hw : w.toNat < n) (hn : n ≤ 10000) : w.toInt = w.toNat ∧ IntOp.cmpi .slt w 0#32 ≠ 1#1 := by
  have e : w.toInt = w.toNat := BitVec.toInt_eq_toNat_of_lt (by omega)
  refine ⟨e, fun hc => ?_⟩
  have := IntOp.cmpi_slt.1 hc
  rw [e] at this
  exact absurd this (not_lt.2 (Int.natCast_nonneg _))

include h in
theorem classes_apply (t : Fin 256) : classes a4 (ix1 t) = a4 (ix1 t) :=
  if_neg (not_neg (a4 (ix1 t)) 10000 (h _) le_rfl).2

include h in
theorem column_apply (t : Fin 256) : column a4 (ix2 t 0) = a4 (ix1 t) :=
  (show column a4 (ix2 t 0) = classes a4 (ix1 t) from congrArg (classes a4) (funext fun k => match k with | ⟨0, _⟩ => rfl)).trans (classes_apply a4 h t)

theorem column_int (t : Fin 256) : (column a4 (ix2 t 0)).toInt = (row a4 h t).val :=
  (congrArg BitVec.toInt (column_apply a4 h t)).trans (not_neg (a4 (ix1 t)) 10000 (h _) le_rfl).1
theorem column_nat (t : Fin 256) : (column a4 (ix2 t 0)).toInt.toNat = (row a4 h t).val :=
  (congrArg Int.toNat (column_int a4 h t)).trans (Int.toNat_natCast _)

end Rows

section Scores

variable {F : FTy → Type} [FloatOps F]
variable (a1 : FVec F S10000x64 .f32) (a3 : FVec F S1024x10000 .f32) (a4 : IVec S256 32)

/-- The entries of each place's class. -/
def scores : FVec F S256x1088 .f32 :=
  concatenate S256x1088 1 [
    ⟨S256x64, shapeCast _ (Host.gather gather_S10000x64_S256x2_S256x1x64_12_n_n_n_01_1_164 a1
      (concatenate S256x2 1 [⟨S256x1, column a4⟩, ⟨S256x1, zeros 64#32⟩] concatenates_S256x1_S256x1_S256x2_d1)) shapeCasts_S256x1x64_S256x64⟩,
    ⟨S256x1024, shapeCast _ (Host.gather gather_S1024x10000_S256x2_S256x1024x1_12_n_n_n_01_1_10241 a3
      (concatenate S256x2 1 [⟨S256x1, zeros 1024#32⟩, ⟨S256x1, column a4⟩] concatenates_S256x1_S256x1_S256x2_d1)) shapeCasts_S256x1024x1_S256x1024⟩]
    concatenates_S256x64_S256x1024_S256x1088_d1

/-- The positions taken. -/
def top : IVec S256x64 32 :=
  extractStridedSlice S256x64 ![0, 0] ((Host.sort2 S256x1088 1 comparator_f32_i32_d1 (Host.negf (scores a1 a3 a4))
    (broadcastInDim S256x1088 ![1] bcast_S1088_S256x1088_1 (iotaInDim S1088 32 0))).2) slices_S256x1088_S256x64_0_0

variable (h : ∀ i, (a4 i).toNat < 10000)

theorem scores_apply (t : Fin 256) (k : Fin 1088) : scores a1 a3 a4 (ix2 t k)
    = joined (fun j => a1 (ix2 (row a4 h t) j)) (fun j => a3 (ix2 j (row a4 h t))) k := by
  unfold scores joined
  by_cases hk : k.val < 64
  · rw [dif_pos hk]
    refine (concatenate_pair_apply_left (t := S256x1088) (s₁ := S256x64) (s₂ := S256x1024) 1 _ _ concatenates_S256x64_S256x1024_S256x1088_d1 (ix2 t k) rfl
      (ix2 t ⟨k.val, hk⟩) (fun b => by match b with | ⟨0, _⟩ => rfl | ⟨1, _⟩ => rfl)).trans ?_
    refine (shapeCast_apply (s := S256x1x64) (t := S256x64) _ _ _ (ix3 t 0 ⟨k.val, hk⟩ : S256x1x64.Idx) ?_).trans ?_
    · rw [Shape.rowMajor_val_two, Shape.rowMajor_val_three]
      show (t.val * 1 + 0) * 64 + k.val = t.val * 64 + k.val
      omega
    · refine gatherRow_apply a1 _ t _ _ (Eq.trans (congrArg (fun w : BitVec 32 => w.toInt.toNat) ?_) (column_nat a4 h t))
      exact concatenate_pair_apply_left (t := S256x2) (s₁ := S256x1) (s₂ := S256x1) 1 _ _ concatenates_S256x1_S256x1_S256x2_d1 (ix2 t 0) rfl
        (ix2 t 0) (fun b => by match b with | ⟨0, _⟩ => rfl | ⟨1, _⟩ => rfl)
  · rw [dif_neg hk]
    refine (concatenate_pair_apply_right (t := S256x1088) (s₁ := S256x64) (s₂ := S256x1024) 1 _ _ concatenates_S256x64_S256x1024_S256x1088_d1 (ix2 t k) rfl rfl
      (ix2 t ⟨k.val - 64, by omega⟩) (fun b hb => by fin_cases b <;> first | rfl | exact absurd rfl hb) (by show (k.val - 64) + 64 = k.val; omega)).trans ?_
    refine (shapeCast_apply (s := S256x1024x1) (t := S256x1024) _ _ _ (ix3 t ⟨k.val - 64, by omega⟩ 0 : S256x1024x1.Idx) ?_).trans ?_
    · rw [Shape.rowMajor_val_two, Shape.rowMajor_val_three]
      show (t.val * 1024 + (k.val - 64)) * 1 + 0 = t.val * 1024 + (k.val - 64)
      omega
    · refine gatherCol_apply a3 _ t _ _ (Eq.trans (congrArg (fun w : BitVec 32 => w.toInt.toNat) ?_) (column_nat a4 h t))
      exact concatenate_pair_apply_right (t := S256x2) (s₁ := S256x1) (s₂ := S256x1) 1 _ _ concatenates_S256x1_S256x1_S256x2_d1 (ix2 t 1) rfl rfl
        (ix2 t 0) (fun b hb => by fin_cases b <;> first | rfl | exact absurd rfl hb) rfl

end Scores

section Order

/-- Before comparing, the comparator replaces zero by zero and nothing else: no extended real differs from itself. -/
theorem plain (x z u : Ideal .f32) :
    Scalar.select (FloatOps.cmpf .une x x) u (Scalar.select (FloatOps.cmpf .oeq x z) z x) = x := by
  have e : FloatOps.cmpf .une x x = 0#1 := by
    show BitVec.ofBool (decide ((x : EReal) ≠ x)) = 0#1
    simp
  rw [e]
  show Scalar.select (FloatOps.cmpf .oeq x z) z x = x
  unfold Scalar.select
  split
  · rename_i g
    exact ((KernelIdeal.Hand.ofBool_one ((x : EReal) = z)).1 g).symm
  · rfl

/-- The comparator puts the smaller key first. -/
theorem comparator_apply (l r : Ideal .f32 × BitVec 32) : (comparator_f32_i32_d1 l r == 1#1) = decide ((l.1 : EReal) < r.1) := by
  unfold comparator_f32_i32_d1
  dsimp only
  rw [plain, plain, Bool.eq_iff_iff, beq_iff_eq, decide_eq_true_iff]
  exact KernelIdeal.Hand.ofBool_one ((l.1 : EReal) < r.1)

theorem along_second (t : Fin 256) (k k' : Fin 1088) : (ix2 t k : S256x1088.Idx).along 1 k' = ix2 t k' := by
  funext b
  match b with
  | ⟨0, _⟩ => rfl
  | ⟨1, _⟩ => rfl

/-- A sort of keys and payload along the second axis, read at an index of the payload. -/
theorem sort_apply (x : FVec Ideal S256x1088 .f32) (y : IVec S256x1088 32) (t : Fin 256) (k : Fin 1088) :
    (Host.sort2 S256x1088 1 comparator_f32_i32_d1 x y).2 (ix2 t k)
      = y (ix2 t (sortedFrom (fun i j => decide ((x (ix2 t i) : EReal) < x (ix2 t j))) k)) := by
  have e : (fun i j : Fin 1088 => comparator_f32_i32_d1 (x ((ix2 t k : S256x1088.Idx).along 1 i), y ((ix2 t k : S256x1088.Idx).along 1 i))
      (x ((ix2 t k : S256x1088.Idx).along 1 j), y ((ix2 t k : S256x1088.Idx).along 1 j)) == 1#1)
      = fun i j => decide ((x (ix2 t i) : EReal) < x (ix2 t j)) := by
    funext i j
    refine (comparator_apply _ _).trans ?_
    rw [along_second, along_second]
  unfold Host.sort2
  rw [dif_pos (show 1 < S256x1088.rank by decide)]
  refine (congrArg y (along_second t k _)).trans ?_
  exact congrArg (fun f => y (ix2 t (sortedFrom f k))) e

variable (a1 : FVec Ideal S10000x64 .f32) (a3 : FVec Ideal S1024x10000 .f32) (a4 : IVec S256 32) (h : ∀ i, (a4 i).toNat < 10000)

theorem places_apply (t : Fin 256) (k : Fin 1088) :
    broadcastInDim S256x1088 ![1] bcast_S1088_S256x1088_1 (iotaInDim S1088 32 0) (ix2 t k) = BitVec.ofNat 32 k.val := rfl

theorem first_apply (y : IVec S256x1088 32) (t : Fin 256) (r : Fin 64) :
    extractStridedSlice S256x64 ![0, 0] y slices_S256x1088_S256x64_0_0 (ix2 t r) = y (ix2 t (r.castLE (by decide))) := by
  unfold extractStridedSlice
  refine congrArg y (funext fun b => Fin.ext ?_)
  match b with
  | ⟨0, _⟩ => exact Nat.zero_add _
  | ⟨1, _⟩ => exact Nat.zero_add _

theorem top_apply (t : Fin 256) (r : Fin 64) :
    top a1 a3 a4 (ix2 t r) = BitVec.ofNat 32 (best (entries a1 a3 (row a4 h t)) r).val := by
  have e : (fun i j : Fin 1088 => decide ((Host.negf (scores a1 a3 a4) (ix2 t i) : EReal) < Host.negf (scores a1 a3 a4) (ix2 t j)))
      = fun i j => decide (entries a1 a3 (row a4 h t) j < entries a1 a3 (row a4 h t) i) := by
    funext i j
    refine decide_eq_decide.mpr ?_
    show -(scores a1 a3 a4 (ix2 t i) : EReal) < -(scores a1 a3 a4 (ix2 t j) : EReal) ↔ _
    rw [EReal.neg_lt_neg_iff, scores_apply a1 a3 a4 h, scores_apply a1 a3 a4 h]
    rfl
  unfold top
  refine (first_apply _ t r).trans ?_
  have hs := sort_apply (Host.negf (scores a1 a3 a4)) (broadcastInDim S256x1088 ![1] bcast_S1088_S256x1088_1 (iotaInDim S1088 32 0)) t
    (r.castLE (by decide))
  rw [e, places_apply] at hs
  exact hs

end Order

end Cert.ReferenceIdeal.Hand

end
-- ==== Proof.ReferenceValue.lean ====
module

public import proofs.«01_k».proof.Proof.Sorted

/-! The two results of the reference are the target functions of its arguments. -/

@[expose] public section

set_option maxRecDepth 16384

noncomputable section

namespace Cert.ReferenceIdeal.Hand

open Idealize.ShloMosaic Idealize.SL.Sem Idealize.ShloMosaic.ValueIdx
open Cert.ReferenceIdeal Cert.ReferenceIdeal.Gen Cert.Rank

section Take

variable (p : IVec S256x64 32)

/-- The positions taken, wrapped as the program wraps negative ones. -/
def wrapped : IVec S256x64x1 32 :=
  broadcastInDim S256x64x1 ![0, 1] bcast_S256x64_S256x64x1_0_1
    (select (cmpi .slt p (broadcastInDim S256x64 ![] bcast_S_S256x64 (constantI S_ 32 0#32)))
      (addi p (broadcastInDim S256x64 ![] bcast_S_S256x64 (constantI S_ 32 1088#32))) p)
/-- Whether each position is one of the 1088. -/
def inside : IVec S256x64 1 :=
  Host.reduce IntOp.andi
    (andi (cmpi .sge (wrapped p) (broadcastInDim S256x64x1 ![] bcast_S_S256x64x1 (constantI S_ 32 0#32)))
      (cmpi .sle (wrapped p) (broadcastInDim S256x64x1 ![0, 1, 2] bcast_S1x1x1_S256x64x1_0_1_2
        (broadcastInDim S1x1x1 ![2] bcast_S1_S1x1x1_2 (constantI S1 32 1087#32)))))
    (constantI S_ 1 1#1) reducesTo_S256x64x1_S256x64_d2 h_S_

variable (k : Fin 256 → Fin 64 → Fin 1088) (hp : ∀ t r, p (ix2 t r) = BitVec.ofNat 32 (k t r).val)

theorem place_nat (k : Fin 1088) : (BitVec.ofNat 32 k.val).toNat = k.val := by
  rw [BitVec.toNat_ofNat]; exact Nat.mod_eq_of_lt (by omega)
theorem place_int (k : Fin 1088) : (BitVec.ofNat 32 k.val).toInt = k.val := by
  have e := place_nat k
  exact (not_neg _ 10000 (by omega) le_rfl).1.trans (congrArg Nat.cast e)

theorem spread_apply {α : Type} (x : S256x64.Idx → α) (i : S256x64x1.Idx) :
    broadcastInDim S256x64x1 ![0, 1] bcast_S256x64_S256x64x1_0_1 x i = x (ix2 (i 0) (i 1)) :=
  congrArg x (funext fun b => match b with | ⟨0, _⟩ => rfl | ⟨1, _⟩ => rfl)
theorem spread_means_apply {α : Type} (x : S256x64.Idx → α) (i : S256x64x128.Idx) :
    broadcastInDim S256x64x128 ![0, 1] bcast_S256x64_S256x64x128_0_1 x i = x (ix2 (i 0) (i 1)) :=
  congrArg x (funext fun b => match b with | ⟨0, _⟩ => rfl | ⟨1, _⟩ => rfl)

include hp in
theorem wrapped_apply (i : S256x64x1.Idx) : wrapped p i = BitVec.ofNat 32 (k (i 0) (i 1)).val := by
  have hn : (p (ix2 (i 0) (i 1))).toNat < 10000 :=
    lt_of_eq_of_lt ((congrArg BitVec.toNat (hp (i 0) (i 1))).trans (place_nat _)) (lt_trans (k (i 0) (i 1)).isLt (by decide))
  exact (spread_apply _ i).trans ((if_neg (not_neg (p (ix2 (i 0) (i 1))) 10000 hn le_rfl).2).trans (hp (i 0) (i 1)))

include hp in
theorem inside_apply (j : S256x64.Idx) : inside p j = 1#1 := by
  unfold inside
  refine Host.reduce_andi_one _ _ _ _ _ rfl fun i => IntOp.andi_eq_one.2 ⟨?_, ?_⟩
  · refine IntOp.cmpi_sge.2 ?_
    rw [wrapped_apply p k hp, place_int]
    exact Int.natCast_nonneg _
  · refine IntOp.cmpi_sle.2 ?_
    rw [wrapped_apply p k hp, place_int]
    show ((k (i 0) (i 1)).val : ℤ) ≤ 1087
    omega

theorem wrapped_nat (t : Fin 256) (r : Fin 64) (hp : ∀ t r, p (ix2 t r) = BitVec.ofNat 32 (k t r).val) :
    (wrapped p (ix3 t r 0)).toInt.toNat = (k t r).val :=
  (congrArg (fun w : BitVec 32 => w.toInt.toNat) (wrapped_apply p k hp (ix3 t r 0))).trans
    ((congrArg Int.toNat (place_int (k t r))).trans (Int.toNat_natCast _))

theorem select_one {α : Type} {s : Shape} {c : IVec s 1} {x y : s.Idx → α} {j : s.Idx} (hc : c j = 1#1) : select c x y j = x j :=
  if_pos hc

/-- A score taken at a position in range is the score standing there, whatever fills the rest. -/
theorem taken_score {α : Type} (x z) (t : Fin 256) (r : Fin 64) (hp : ∀ t r, p (ix2 t r) = BitVec.ofNat 32 (k t r).val) :
    select (inside p) (Host.gather (α := α) gather_S256x1088_S256x64x1_S256x64_n_1_0_0_1_2_11 x (wrapped p)) z (ix2 t r : S256x64.Idx)
      = x (ix2 t (k t r)) := by
  exact (select_one (inside_apply p k hp (ix2 t r))).trans (takeScores_apply x (wrapped p) t r (k t r) (wrapped_nat p k t r hp))

/-- A mean taken at a position in range is the mean standing there. -/
theorem taken_mean {α : Type} (x z) (t : Fin 256) (r : Fin 64) (d : Fin 128) (hp : ∀ t r, p (ix2 t r) = BitVec.ofNat 32 (k t r).val) :
    select (broadcastInDim S256x64x128 ![0, 1] bcast_S256x64_S256x64x128_0_1 (inside p))
      (Host.gather (α := α) gather_S256x1088x128_S256x64x1_S256x64x128_2_1_0_0_1_2_11128 x (wrapped p)) z (ix3 t r d : S256x64x128.Idx)
      = x (ix3 t (k t r) d) := by
  have hc := (spread_means_apply (inside p) (ix3 t r d)).trans (inside_apply p k hp (ix2 t r))
  exact (select_one hc).trans (takeMeans_apply x (wrapped p) t r d (k t r) (wrapped_nat p k t r hp))

end Take

variable {F : FTy → Type} [FloatOps F]

/-- The means of each place's class, and the means of its entries. -/
def rowsOf (a0 : FVec F S10000x64x128 .f32) (a4 : IVec S256 32) : FVec F S256x64x128 .f32 :=
  shapeCast _ (Host.gather gather_S10000x64x128_S256x3_S256x1x64x128_123_n_n_n_012_1_164128 a0
    (concatenate S256x3 1 [⟨S256x1, column a4⟩, ⟨S256x1, zeros 64#32⟩, ⟨S256x1, zeros 128#32⟩] concatenates_S256x1_S256x1_S256x1_S256x3_d1))
    shapeCasts_S256x1x64x128_S256x64x128
def means (a0 : FVec F S10000x64x128 .f32) (a2 : FVec F S1024x128 .f32) (a4 : IVec S256 32) : FVec F S256x1088x128 .f32 :=
  concatenate S256x1088x128 1 [⟨S256x64x128, rowsOf a0 a4⟩,
    ⟨S256x1024x128, broadcastInDim S256x1024x128 ![1, 2] bcast_S1024x128_S256x1024x128_1_2 a2⟩]
    concatenates_S256x64x128_S256x1024x128_S256x1088x128_d1

theorem rowsOf_apply (a0 : FVec F S10000x64x128 .f32) (a4 : IVec S256 32) (h : ∀ i, (a4 i).toNat < 10000) (t : Fin 256) (r : Fin 64) (d : Fin 128) :
    rowsOf a0 a4 (ix3 t r d) = a0 (ix3 (row a4 h t) r d) := by
  unfold rowsOf
  refine (shapeCast_apply (s := S256x1x64x128) (t := S256x64x128) _ _ _ (ix4 t 0 r d : S256x1x64x128.Idx) ?_).trans ?_
  · rw [Shape.rowMajor_val_three, Shape.rowMajor_val_four]
    show ((t.val * 1 + 0) * 64 + r.val) * 128 + d.val = (t.val * 64 + r.val) * 128 + d.val
    omega
  · refine gatherMeans_apply a0 _ t r d _ (Eq.trans (congrArg (fun w : BitVec 32 => w.toInt.toNat) ?_) (column_nat a4 h t))
    exact KernelIdeal.Hand.piece3_fst (t := S256x3) (s₁ := S256x1) (s₂ := S256x1) (s₃ := S256x1) 1 _ _ _ concatenates_S256x1_S256x1_S256x1_S256x3_d1 (ix2 t 0) rfl
      (ix2 t 0) (fun b hb => by fin_cases b <;> first | rfl | exact absurd rfl hb) rfl

theorem means_apply (a0 : FVec F S10000x64x128 .f32) (a2 : FVec F S1024x128 .f32) (a4 : IVec S256 32) (h : ∀ i, (a4 i).toNat < 10000)
    (t : Fin 256) (k : Fin 1088) (d : Fin 128) :
    means a0 a2 a4 (ix3 t k d) = joined (fun j => a0 (ix3 (row a4 h t) j d)) (fun j => a2 (ix2 j d)) k := by
  unfold means joined
  by_cases hk : k.val < 64
  · rw [dif_pos hk]
    refine (concatenate_pair_apply_left (t := S256x1088x128) (s₁ := S256x64x128) (s₂ := S256x1024x128) 1 _ _
      concatenates_S256x64x128_S256x1024x128_S256x1088x128_d1 (ix3 t k d) rfl
      (ix3 t ⟨k.val, hk⟩ d) (fun b => by match b with | ⟨0, _⟩ => rfl | ⟨1, _⟩ => rfl | ⟨2, _⟩ => rfl)).trans ?_
    exact rowsOf_apply a0 a4 h t _ d
  · rw [dif_neg hk]
    refine (concatenate_pair_apply_right (t := S256x1088x128) (s₁ := S256x64x128) (s₂ := S256x1024x128) 1 _ _
      concatenates_S256x64x128_S256x1024x128_S256x1088x128_d1 (ix3 t k d) rfl rfl
      (ix3 t ⟨k.val - 64, by omega⟩ d) (fun b hb => by fin_cases b <;> first | rfl | exact absurd rfl hb) (by show (k.val - 64) + 64 = k.val; omega)).trans ?_
    exact congrArg a2 (funext fun b => match b with | ⟨0, _⟩ => rfl | ⟨1, _⟩ => rfl)

section Values

variable (m : (l : Loc nD τ sig) → Buf (Elt F) l) (c : Dev nD)

theorem scores_term : Value.res_main_v87 m c = Host.scatter scatter_S10000x64_S256x1_S256x64_1_0_0_1 (fun _ b => b) (m ((c.tc : Thread nD τ).loc main_arg1))
    (column (m ((c.tc : Thread nD τ).loc main_arg4)))
    (select (inside (top (m ((c.tc : Thread nD τ).loc main_arg1)) (m ((c.tc : Thread nD τ).loc main_arg3)) (m ((c.tc : Thread nD τ).loc main_arg4))))
      (Host.gather gather_S256x1088_S256x64x1_S256x64_n_1_0_0_1_2_11
        (scores (m ((c.tc : Thread nD τ).loc main_arg1)) (m ((c.tc : Thread nD τ).loc main_arg3)) (m ((c.tc : Thread nD τ).loc main_arg4)))
        (wrapped (top (m ((c.tc : Thread nD τ).loc main_arg1)) (m ((c.tc : Thread nD τ).loc main_arg3)) (m ((c.tc : Thread nD τ).loc main_arg4)))))
      (broadcastInDim S256x64 ![] bcast_S_S256x64 (constant S_ .f32 0x7FC00000#32))) := rfl

theorem means_term : Value.res_main_v80 m c = Host.scatter scatter_S10000x64x128_S256x1_S256x64x128_12_0_0_1 (fun _ b => b) (m ((c.tc : Thread nD τ).loc main_arg0))
    (column (m ((c.tc : Thread nD τ).loc main_arg4)))
    (addf (mulf (broadcastInDim S256x64x128 ![] bcast_S_S256x64x128 (subf (constant S_ .f32 0x3F800000#32) (m ((c.tc : Thread nD τ).loc main_arg5))))
        (rowsOf (m ((c.tc : Thread nD τ).loc main_arg0)) (m ((c.tc : Thread nD τ).loc main_arg4))))
      (mulf (broadcastInDim S256x64x128 ![] bcast_S_S256x64x128 (m ((c.tc : Thread nD τ).loc main_arg5)))
        (select (broadcastInDim S256x64x128 ![0, 1] bcast_S256x64_S256x64x128_0_1
            (inside (top (m ((c.tc : Thread nD τ).loc main_arg1)) (m ((c.tc : Thread nD τ).loc main_arg3)) (m ((c.tc : Thread nD τ).loc main_arg4)))))
          (Host.gather gather_S256x1088x128_S256x64x1_S256x64x128_2_1_0_0_1_2_11128
            (means (m ((c.tc : Thread nD τ).loc main_arg0)) (m ((c.tc : Thread nD τ).loc main_arg2)) (m ((c.tc : Thread nD τ).loc main_arg4)))
            (wrapped (top (m ((c.tc : Thread nD τ).loc main_arg1)) (m ((c.tc : Thread nD τ).loc main_arg3)) (m ((c.tc : Thread nD τ).loc main_arg4)))))
          (broadcastInDim S256x64x128 ![] bcast_S_S256x64x128 (constant S_ .f32 0x7FC00000#32))))) := rfl

end Values

section Ideal

theorem named_iff (a4 : IVec S256 32) (h : ∀ i, (a4 i).toNat < 10000) (n : Fin 10000) :
    (∃ t, row a4 h t = n) ↔ ∃ t : Fin 256, (a4 (ix1 t)).toNat = n.val :=
  exists_congr fun _ => Fin.ext_iff

theorem same_choice {α : Type} {b d : Prop} {db : Decidable b} {dc : Decidable d} (h : b ↔ d) {x y u v : α} (hx : x = u) (hy : y = v) :
    @ite _ b db x y = @ite _ d dc u v := by
  subst hx hy
  by_cases hb : b
  · rw [if_pos hb, if_pos (h.1 hb)]
  · rw [if_neg hb, if_neg (fun e => hb (h.2 e))]

variable (a0 : FVec Ideal S10000x64x128 .f32) (a1 : FVec Ideal S10000x64 .f32) (a2 : FVec Ideal S1024x128 .f32) (a3 : FVec Ideal S1024x10000 .f32)
  (a4 : IVec S256 32) (a5 : FVec Ideal S_ .f32)

/-- The places' new scores. -/
def newScores : FVec Ideal S256x64 .f32 :=
  select (inside (top a1 a3 a4)) (Host.gather gather_S256x1088_S256x64x1_S256x64_n_1_0_0_1_2_11 (scores a1 a3 a4) (wrapped (top a1 a3 a4)))
    (broadcastInDim S256x64 ![] bcast_S_S256x64 (constant S_ .f32 0x7FC00000#32))
/-- The places' best means. -/
def bestMeans : FVec Ideal S256x64x128 .f32 :=
  select (broadcastInDim S256x64x128 ![0, 1] bcast_S256x64_S256x64x128_0_1 (inside (top a1 a3 a4)))
    (Host.gather gather_S256x1088x128_S256x64x1_S256x64x128_2_1_0_0_1_2_11128 (means a0 a2 a4) (wrapped (top a1 a3 a4)))
    (broadcastInDim S256x64x128 ![] bcast_S_S256x64x128 (constant S_ .f32 0x7FC00000#32))
/-- The places' new means. -/
def newMeans : FVec Ideal S256x64x128 .f32 :=
  addf (mulf (broadcastInDim S256x64x128 ![] bcast_S_S256x64x128 (subf (constant S_ .f32 0x3F800000#32) a5)) (rowsOf a0 a4))
    (mulf (broadcastInDim S256x64x128 ![] bcast_S_S256x64x128 a5) (bestMeans a0 a1 a2 a3 a4))

variable (h : ∀ i, (a4 i).toNat < 10000)

/-- The position each place takes at each rank. -/
def placeAt (t : Fin 256) (r : Fin 64) : Fin 1088 := best (entries a1 a3 (row a4 h t)) r

theorem newScores_apply (t : Fin 256) (r : Fin 64) : newScores a1 a3 a4 (ix2 t r) = scAt a1 a3 (row a4 h t) r :=
  (taken_score (top a1 a3 a4) (placeAt a1 a3 a4 h) (scores a1 a3 a4) _ t r (top_apply a1 a3 a4 h)).trans
    (scores_apply a1 a3 a4 h t (placeAt a1 a3 a4 h t r))

theorem bestMeans_apply (t : Fin 256) (r : Fin 64) (d : Fin 128) : bestMeans a0 a1 a2 a3 a4 (ix3 t r d)
    = joined (fun j => a0 (ix3 (row a4 h t) j d)) (fun j => a2 (ix2 j d)) (placeAt a1 a3 a4 h t r) :=
  (taken_mean (top a1 a3 a4) (placeAt a1 a3 a4 h) (means a0 a2 a4) _ t r d (top_apply a1 a3 a4 h)).trans
    (means_apply a0 a2 a4 h t (placeAt a1 a3 a4 h t r) d)

theorem scalar_apply {α : Type} (x : S_.Idx → α) (i : S256x64x128.Idx) :
    broadcastInDim S256x64x128 ![] bcast_S_S256x64x128 x i = x ix0 :=
  congrArg x (funext fun b => b.elim0)

theorem newMeans_apply (t : Fin 256) (r : Fin 64) (d : Fin 128) :
    newMeans a0 a1 a2 a3 a4 a5 (ix3 t r d) = muAt a0 a1 a2 a3 (a5 ix0) (row a4 h t) r d :=
  congrArg₂ (fun a b : EReal => a + b)
    (congrArg₂ (fun a b : EReal => a * b) (scalar_apply (subf (constant S_ .f32 0x3F800000#32) a5) (ix3 t r d)) (rowsOf_apply a0 a4 h t r d))
    (congrArg₂ (fun a b : EReal => a * b) (scalar_apply a5 (ix3 t r d)) (bestMeans_apply a0 a1 a2 a3 a4 h t r d))

include h in
theorem scores_set : Host.scatter scatter_S10000x64_S256x1_S256x64_1_0_0_1 (fun _ b => b) a1 (column a4) (newScores a1 a3 a4)
    = outSc a1 a3 a4 := by
  funext i
  obtain ⟨n, r, rfl⟩ : ∃ (n : Fin 10000) (r : Fin 64), i = ix2 n r := ⟨i 0, i 1, eq_ix2 i⟩
  refine (scatterScores_apply a1 (column a4) (newScores a1 a3 a4) (row a4 h) (column_int a4 h) (scAt a1 a3)
    (newScores_apply a1 a3 a4 h) n r).trans ?_
  exact same_choice (named_iff a4 h n) rfl rfl

include h in
theorem means_set : Host.scatter scatter_S10000x64x128_S256x1_S256x64x128_12_0_0_1 (fun _ b => b) a0 (column a4) (newMeans a0 a1 a2 a3 a4 a5)
    = outMu a0 a1 a2 a3 a4 (a5 ix0) := by
  funext i
  obtain ⟨n, r, d, rfl⟩ : ∃ (n : Fin 10000) (r : Fin 64) (d : Fin 128), i = ix3 n r d := ⟨i 0, i 1, i 2, eq_ix3 i⟩
  refine (scatterMeans_apply a0 (column a4) (newMeans a0 a1 a2 a3 a4 a5) (row a4 h) (column_int a4 h) (muAt a0 a1 a2 a3 (a5 ix0))
    (newMeans_apply a0 a1 a2 a3 a4 a5 h) n r d).trans ?_
  exact same_choice (named_iff a4 h n) rfl rfl

variable (m : (l : Loc nD τ sig) → Buf (Elt Ideal) l) (c : Dev nD)

theorem reference_sc (h : ∀ i : S256.Idx, (m ((c.tc : Thread nD τ).loc main_arg4) i : BitVec 32).toNat < 10000) :
    Value.res_main_v87 m c = outSc (m ((c.tc : Thread nD τ).loc main_arg1)) (m ((c.tc : Thread nD τ).loc main_arg3)) (m ((c.tc : Thread nD τ).loc main_arg4)) :=
  (scores_term m c).trans (scores_set _ _ _ h)

theorem reference_mu (h : ∀ i : S256.Idx, (m ((c.tc : Thread nD τ).loc main_arg4) i : BitVec 32).toNat < 10000) :
    Value.res_main_v80 m c = outMu (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5) (ix0 : S_.Idx)) :=
  (means_term m c).trans (means_set _ _ _ _ _ _ h)

end Ideal

end Cert.ReferenceIdeal.Hand

end
-- ==== Proof.Algebraic.lean ====
module

public import proofs.«01_k».proof.Proof.Ranked
public import proofs.«01_k».proof.Proof.KernelValue
public import proofs.«01_k».proof.Proof.ReferenceValue

/-! The value claim: from equal arguments the kernel and the reference end with equal results. -/

@[expose] public section

set_option maxRecDepth 16384

noncomputable section

namespace Cert.Hand

open Idealize.ShloMosaic Idealize.SL.Sem

/-- A score that tests as at least the padding's value is at least it. -/
theorem pad_le {x : EReal} (hx : FloatOps.cmpf (F := Ideal) (φ := .f32) .oge x (FloatOps.ofBits .f32 0xBF800000#32) = 1#1) :
    KernelIdeal.Hand.pad ≤ x :=
  (KernelIdeal.Hand.ofBool_one _).1 hx

section Kernel

open Cert.KernelIdeal Cert.KernelIdeal.Hand

variable (m : (l : Loc nD τ sig) → Buf (Elt Ideal) l)

/-- What the kernel's run leaves: both results at their targets, the arguments unchanged. -/
theorem kernel_run (g : Dev nD → PrngReg) (h : ∀ i, (idxArg m i).toNat < 10000)
    (hq : ∀ (c : Dev nD) (i : S10000x64.Idx), pad ≤ (m ((c.tc : Thread nD τ).loc main_arg1) i : EReal)) :
    θ_run defs (onTc (τ := τ) (main (F := Ideal))) ⟨m, fun _ => 0, g⟩ (fun r => ∀ c : Dev nD,
      r.2.mem ((c.tc : Thread nD τ).loc main_v5_0) = Cert.Rank.outMu (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5) (ValueIdx.ix0 : S_.Idx))
      ∧ r.2.mem ((c.tc : Thread nD τ).loc main_v6) = Cert.Rank.outSc (m ((c.tc : Thread nD τ).loc main_arg1)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => by
    have key : ∀ b ∈ argRefs, r.2.mem ((c.tc : Thread nD τ).loc b) = m ((c.tc : Thread nD τ).loc b) := fun b hb =>
      (hr.1 c _ (mem_uc b ((show ∀ b ∈ argRefs, ¬ (Proc.devRef .tc b : DevRef τ sig).isScoped by decide) b hb))).trans (W5_args (tables m h) m c b hb)
    exact ⟨(hr.1 c _ (mem_uc main_v5_0 (by decide))).trans (kernel_mu m h hq c), (hr.1 c _ (mem_uc main_v6 (by decide))).trans (kernel_sc m h hq c),
      key _ (by decide), key _ (by decide), key _ (by decide), key _ (by decide), key _ (by decide), key _ (by decide)⟩)
    (run (tables m h) m g (tables_held m h))

end Kernel

theorem algebraic : Cert.algebraic_KernelIdeal_ReferenceIdeal_pre_ranked (hKernelIdeal := Cert.KernelIdeal.Gen.facts)
    (hReferenceIdeal := Cert.ReferenceIdeal.Gen.facts) (hPre_ranked := rankedFacts) := by
  intro m g m' g' hm heq
  have hb := ranked_lt _ _ _ _ _ _ (hm 0)
  refine ⟨_, _, kernel_run m g hb.1 (fun c i => ?_), ?_⟩
  · obtain rfl : c = 0 := Subsingleton.elim c 0
    exact pad_le (hb.2 i)
  · refine (θ_run _ _ _).mono (fun r h c => ?_) (Cert.ReferenceIdeal.Value.run (F := Ideal) m' g')
    obtain ⟨e0, e1, e2, e3, e4, e5⟩ := heq c
    have hidx : ∀ i : ReferenceIdeal.S256.Idx, (m' ((c.tc : Thread ReferenceIdeal.nD ReferenceIdeal.τ).loc ReferenceIdeal.main_arg4) i : BitVec 32).toNat < 10000 := by
      obtain rfl : c = 0 := Subsingleton.elim c 0
      exact fun i => (congrArg BitVec.toNat (congrFun e4 i)).trans_lt (hb.1 i)
    refine ⟨(h c).1.trans ((ReferenceIdeal.Hand.reference_mu m' c hidx).trans ?_), (h c).2.1.trans ((ReferenceIdeal.Hand.reference_sc m' c hidx).trans ?_), (h c).2.2⟩
    · rw [e0, e1, e2, e3, e4, e5]
    · rw [e1, e3, e4]

end Cert.Hand

end
-- ==== Proof.lean ====
/- The certificate: the frames of the three programs, the kernel's idealization, and the equation of the kernel and the
   reference over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Ranked
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Hand.rangeFacts, Cert.Hand.rankedFacts,
  Cert.Hand.frame_bits, Cert.Hand.frame_ideal, Cert.Hand.frame_ideal_ranked, Cert.Hand.frame_reference, Cert.Hand.frame_reference_ranked, trivial,
  Cert.Hand.algebraic⟩

end Cert.Proof

end
